-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![2, 128, 4, 64]⟩ ⟨4, ![2, 2048, 4, 64]⟩ 1 16 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![2, 128, 4, 64]⟩ ⟨4, ![2, 2048, 4, 64]⟩ 1 16 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v44) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_scores_KernelIdeal : Cert.Pre_finite_scores_KernelIdeal.Facts) (hPre_finite_scores_ReferenceIdeal : Cert.Pre_finite_scores_ReferenceIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ preserves_Kernel_KernelIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
-- ==== Pre_finite_scores_KernelIdeal.lean ====
abbrev S2x128x512 : Shape := ⟨3, ![2, 128, 512]⟩
abbrev S512x256 : Shape := ⟨2, ![512, 256]⟩
abbrev S2x128x4x64 : Shape := ⟨4, ![2, 128, 4, 64]⟩
abbrev S256x512 : Shape := ⟨2, ![256, 512]⟩
abbrev S_ : Shape := ⟨0, ![]⟩

class Facts : Prop where
  bcast_S_S2x128x512 : S_.BroadcastsInDim S2x128x512 (![] : Fin 0 → Fin S2x128x512.rank)
  reducesTo_S2x128x512_S_d0_1_2 : S2x128x512.ReducesTo [0, 1, 2] S_
  h_S_ : 0 < S_.numel
  bcast_S_S512x256 : S_.BroadcastsInDim S512x256 (![] : Fin 0 → Fin S512x256.rank)
  reducesTo_S512x256_S_d0_1 : S512x256.ReducesTo [0, 1] S_
  bcast_S_S2x128x4x64 : S_.BroadcastsInDim S2x128x4x64 (![] : Fin 0 → Fin S2x128x4x64.rank)
  reducesTo_S2x128x4x64_S_d0_1_2_3 : S2x128x4x64.ReducesTo [0, 1, 2, 3] S_

variable [Facts]

def fn {F : FTy → Type} [FloatOps F] (main_arg0 : FVec F S2x128x512 .f32) (main_arg1 : FVec F S512x256 .f32) (main_arg2 : FVec F S2x128x4x64 .f32) (main_arg3 : FVec F S2x128x4x64 .f32) (main_arg4 : FVec F S256x512 .f32) : IVec S_ 1 :=
  let main_v0 : FVec F S2x128x512 .f32 := Host.absf main_arg0
  let main_cst : FVec F S_ .f32 := constant S_ .f32 0x7F800000#32
  let main_v1 : FVec F S2x128x512 .f32 := broadcastInDim S2x128x512 ![] bcast_S_S2x128x512 main_cst
  let main_v2 : IVec S2x128x512 1 := cmpf .olt main_v0 main_v1
  let main_c : IVec S_ 1 := constantI S_ 1 1#1
  let main_v3 : IVec S_ 1 := (fun x v => Host.reduce IntOp.andi x v reducesTo_S2x128x512_S_d0_1_2 h_S_) main_v2 main_c
  let main_v4 : FVec F S512x256 .f32 := Host.absf main_arg1
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S2x128x4x64 .f32 := Host.absf main_arg2
  let main_cst_2 : FVec F S_ .f32 := constant S_ .f32 0x7F800000#32
  let main_v10 : FVec F S2x128x4x64 .f32 := broadcastInDim S2x128x4x64 ![] bcast_S_S2x128x4x64 main_cst_2
  let main_v11 : IVec S2x128x4x64 1 := cmpf .olt main_v9 main_v10
  let main_c_3 : IVec S_ 1 := constantI S_ 1 1#1
  let main_v12 : IVec S_ 1 := (fun x v => Host.reduce IntOp.andi x v reducesTo_S2x128x4x64_S_d0_1_2_3 h_S_) main_v11 main_c_3
  let main_v13 : IVec S_ 1 := andi main_v8 main_v12
  main_v13
-- ==== Pre_finite_scores_ReferenceIdeal.lean ====
abbrev S2x128x512 : Shape := ⟨3, ![2, 128, 512]⟩
abbrev S512x256 : Shape := ⟨2, ![512, 256]⟩
abbrev S2x2048x4x64 : Shape := ⟨4, ![2, 2048, 4, 64]⟩
abbrev S256x512 : Shape := ⟨2, ![256, 512]⟩
abbrev S_ : Shape := ⟨0, ![]⟩

class Facts : Prop where
  bcast_S_S2x128x512 : S_.BroadcastsInDim S2x128x512 (![] : Fin 0 → Fin S2x128x512.rank)
  reducesTo_S2x128x512_S_d0_1_2 : S2x128x512.ReducesTo [0, 1, 2] S_
  h_S_ : 0 < S_.numel
  bcast_S_S512x256 : S_.BroadcastsInDim S512x256 (![] : Fin 0 → Fin S512x256.rank)
  reducesTo_S512x256_S_d0_1 : S512x256.ReducesTo [0, 1] S_
  bcast_S_S2x2048x4x64 : S_.BroadcastsInDim S2x2048x4x64 (![] : Fin 0 → Fin S2x2048x4x64.rank)
  reducesTo_S2x2048x4x64_S_d0_1_2_3 : S2x2048x4x64.ReducesTo [0, 1, 2, 3] S_

variable [Facts]

def fn {F : FTy → Type} [FloatOps F] (main_arg0 : FVec F S2x128x512 .f32) (main_arg1 : FVec F S512x256 .f32) (main_arg2 : FVec F S2x2048x4x64 .f32) (main_arg3 : FVec F S2x2048x4x64 .f32) (main_arg4 : FVec F S256x512 .f32) : IVec S_ 1 :=
  let main_v0 : FVec F S2x128x512 .f32 := Host.absf main_arg0
  let main_cst : FVec F S_ .f32 := constant S_ .f32 0x7F800000#32
  let main_v1 : FVec F S2x128x512 .f32 := broadcastInDim S2x128x512 ![] bcast_S_S2x128x512 main_cst
  let main_v2 : IVec S2x128x512 1 := cmpf .olt main_v0 main_v1
  let main_c : IVec S_ 1 := constantI S_ 1 1#1
  let main_v3 : IVec S_ 1 := (fun x v => Host.reduce IntOp.andi x v reducesTo_S2x128x512_S_d0_1_2 h_S_) main_v2 main_c
  let main_v4 : FVec F S512x256 .f32 := Host.absf main_arg1
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S2x2048x4x64 .f32 := Host.absf main_arg2
  let main_cst_2 : FVec F S_ .f32 := constant S_ .f32 0x7F800000#32
  let main_v10 : FVec F S2x2048x4x64 .f32 := broadcastInDim S2x2048x4x64 ![] bcast_S_S2x2048x4x64 main_cst_2
  let main_v11 : IVec S2x2048x4x64 1 := cmpf .olt main_v9 main_v10
  let main_c_3 : IVec S_ 1 := constantI S_ 1 1#1
  let main_v12 : IVec S_ 1 := (fun x v => Host.reduce IntOp.andi x v reducesTo_S2x2048x4x64_S_d0_1_2_3 h_S_) main_v11 main_c_3
  let main_v13 : IVec S_ 1 := andi main_v8 main_v12
  main_v13
-- ==== Kernel.lean ====
abbrev S2x128x512 : Shape := ⟨3, ![2, 128, 512]⟩
abbrev S512x256 : Shape := ⟨2, ![512, 256]⟩
abbrev S2x128x4x64 : Shape := ⟨4, ![2, 128, 4, 64]⟩
abbrev S256x512 : Shape := ⟨2, ![256, 512]⟩
abbrev S2x136x256 : Shape := ⟨3, ![2, 136, 256]⟩
abbrev S4x4x136x128 : Shape := ⟨4, ![4, 4, 136, 128]⟩
abbrev S4x4 : Shape := ⟨2, ![4, 4]⟩
abbrev S128x128 : Shape := ⟨2, ![128, 128]⟩
abbrev S1x128 : Shape := ⟨2, ![1, 128]⟩
abbrev S2x128 : Shape := ⟨2, ![2, 128]⟩
abbrev S8x256 : Shape := ⟨2, ![8, 256]⟩
abbrev S1x8x256 : Shape := ⟨3, ![1, 8, 256]⟩
abbrev S1x128x512 : Shape := ⟨3, ![1, 128, 512]⟩
abbrev S128x512 : Shape := ⟨2, ![128, 512]⟩
abbrev S128x256 : Shape := ⟨2, ![128, 256]⟩
abbrev S128x64 : Shape := ⟨2, ![128, 64]⟩
abbrev S1x128x1x64 : Shape := ⟨4, ![1, 128, 1, 64]⟩
abbrev S1x128x64 : Shape := ⟨3, ![1, 128, 64]⟩
abbrev S1x1x128 : Shape := ⟨3, ![1, 1, 128]⟩
abbrev S_ : Shape := ⟨0, ![]⟩
abbrev S1x136x128 : Shape := ⟨3, ![1, 136, 128]⟩
abbrev S136x128 : Shape := ⟨2, ![136, 128]⟩
abbrev S1x1 : Shape := ⟨2, ![1, 1]⟩
abbrev S1x1x136x128 : Shape := ⟨4, ![1, 1, 136, 128]⟩
abbrev S1x2x128 : Shape := ⟨3, ![1, 2, 128]⟩
abbrev S128x2 : Shape := ⟨2, ![128, 2]⟩
abbrev S1x128x128 : Shape := ⟨3, ![1, 128, 128]⟩

abbrev nBuf : Space → Nat
  | .hbm => 6
  | .vmem => 9
  | .smem => 0
  | _ => 0

abbrev bufTy : (tb : Table) → Fin (tcTables nBuf tb) → BufTy
  | .hbm, ⟨0, _⟩ => ⟨S2x128x512, .f32⟩
  | .hbm, ⟨1, _⟩ => ⟨S512x256, .f32⟩
  | .hbm, ⟨2, _⟩ => ⟨S2x128x4x64, .f32⟩
  | .hbm, ⟨3, _⟩ => ⟨S2x128x4x64, .f32⟩
  | .hbm, ⟨4, _⟩ => ⟨S256x512, .f32⟩
  | .hbm, ⟨5, _⟩ => ⟨S2x128x512, .f32⟩
  | .local _ .vmem, ⟨0, _⟩ => ⟨S2x128x512, .f32⟩
  | .local _ .vmem, ⟨1, _⟩ => ⟨S512x256, .f32⟩
  | .local _ .vmem, ⟨2, _⟩ => ⟨S2x128x4x64, .f32⟩
  | .local _ .vmem, ⟨3, _⟩ => ⟨S2x128x4x64, .f32⟩
  | .local _ .vmem, ⟨4, _⟩ => ⟨S256x512, .f32⟩
  | .local _ .vmem, ⟨5, _⟩ => ⟨S2x128x512, .f32⟩
  | .local _ .vmem, ⟨6, _⟩ => ⟨S2x136x256, .f32⟩
  | .local _ .vmem, ⟨7, _⟩ => ⟨S2x136x256, .bf16⟩
  | .local _ .vmem, ⟨8, _⟩ => ⟨S4x4x136x128, .bf16⟩
  | _, _ => ⟨S2x128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  (ofTc nBuf bufTy 1 38 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_73 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.xori v2 c1_i32_0
  let c1_i32_72 : BitVec 32 := 1#32
  let v173 : BitVec 32 := Scalar.muli v3 c1_i32_72
  let v174 : BitVec 32 := Scalar.addi c0_i32_73 v173
  v174.toNat
def k0_dev2 (d0 : Dev nD) : Nat :=
  let c0_i32_76 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v4 : BitVec 32 := Scalar.xori v2 c2_i32
  let c1_i32_75 : BitVec 32 := 1#32
  let v175 : BitVec 32 := Scalar.muli v4 c1_i32_75
  let v176 : BitVec 32 := Scalar.addi c0_i32_76 v175
  v176.toNat
def k0_dev3 (d0 : Dev nD) : Nat :=
  let c0_i32_79 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v5 : BitVec 32 := Scalar.xori v2 c4_i32
  let c1_i32_78 : BitVec 32 := 1#32
  let v177 : BitVec 32 := Scalar.muli v5 c1_i32_78
  let v178 : BitVec 32 := Scalar.addi c0_i32_79 v177
  v178.toNat
def k0_dev4 (d0 : Dev nD) : Nat :=
  let c0_i32_82 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v6 : BitVec 32 := Scalar.xori v2 c8_i32
  let c1_i32_81 : BitVec 32 := 1#32
  let v179 : BitVec 32 := Scalar.muli v6 c1_i32_81
  let v180 : BitVec 32 := Scalar.addi c0_i32_82 v179
  v180.toNat
def k0_dev5 (d0 : Dev nD) : Nat :=
  let c0_i32_98 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.xori v2 c1_i32_0
  let c1_i32_97 : BitVec 32 := 1#32
  let v187 : BitVec 32 := Scalar.muli v3 c1_i32_97
  let v188 : BitVec 32 := Scalar.addi c0_i32_98 v187
  v188.toNat
def k0_dev6 (d0 : Dev nD) : Nat :=
  let c0_i32_152 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v4 : BitVec 32 := Scalar.xori v2 c2_i32
  let c1_i32_151 : BitVec 32 := 1#32
  let v249 : BitVec 32 := Scalar.muli v4 c1_i32_151
  let v250 : BitVec 32 := Scalar.addi c0_i32_152 v249
  v250.toNat
def k0_dev7 (d0 : Dev nD) : Nat :=
  let c0_i32_218 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v5 : BitVec 32 := Scalar.xori v2 c4_i32
  let c1_i32_217 : BitVec 32 := 1#32
  let v322 : BitVec 32 := Scalar.muli v5 c1_i32_217
  let v323 : BitVec 32 := Scalar.addi c0_i32_218 v322
  v323.toNat
def k0_dev8 (d0 : Dev nD) : Nat :=
  let c0_i32_275 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v6 : BitVec 32 := Scalar.xori v2 c8_i32
  let c1_i32_274 : BitVec 32 := 1#32
  let v384 : BitVec 32 := Scalar.muli v6 c1_i32_274
  let v385 : BitVec 32 := Scalar.addi c0_i32_275 v384
  v385.toNat
def k0_dev9 (d0 : Dev nD) : Nat :=
  let c0_i32_329 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v4 : BitVec 32 := Scalar.xori v2 c2_i32
  let c1_i32_328 : BitVec 32 := 1#32
  let v423 : BitVec 32 := Scalar.muli v4 c1_i32_328
  let v424 : BitVec 32 := Scalar.addi c0_i32_329 v423
  v424.toNat
def k0_dev10 (d0 : Dev nD) : Nat :=
  let c0_i32_383 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v5 : BitVec 32 := Scalar.xori v2 c4_i32
  let c1_i32_382 : BitVec 32 := 1#32
  let v462 : BitVec 32 := Scalar.muli v5 c1_i32_382
  let v463 : BitVec 32 := Scalar.addi c0_i32_383 v462
  v463.toNat
def k0_dev11 (d0 : Dev nD) : Nat :=
  let c0_i32_437 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v6 : BitVec 32 := Scalar.xori v2 c8_i32
  let c1_i32_436 : BitVec 32 := 1#32
  let v501 : BitVec 32 := Scalar.muli v6 c1_i32_436
  let v502 : BitVec 32 := Scalar.addi c0_i32_437 v501
  v502.toNat
def k0_dev12 (d0 : Dev nD) : Nat :=
  let c0_i32_491 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.xori v2 c1_i32_0
  let c1_i32_490 : BitVec 32 := 1#32
  let v540 : BitVec 32 := Scalar.muli v3 c1_i32_490
  let v541 : BitVec 32 := Scalar.addi c0_i32_491 v540
  v541.toNat
def k0_dev13 (d0 : Dev nD) : Nat :=
  let c0_i32_545 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v5 : BitVec 32 := Scalar.xori v2 c4_i32
  let c1_i32_544 : BitVec 32 := 1#32
  let v579 : BitVec 32 := Scalar.muli v5 c1_i32_544
  let v580 : BitVec 32 := Scalar.addi c0_i32_545 v579
  v580.toNat
def k0_dev14 (d0 : Dev nD) : Nat :=
  let c0_i32_599 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v6 : BitVec 32 := Scalar.xori v2 c8_i32
  let c1_i32_598 : BitVec 32 := 1#32
  let v618 : BitVec 32 := Scalar.muli v6 c1_i32_598
  let v619 : BitVec 32 := Scalar.addi c0_i32_599 v618
  v619.toNat
def k0_dev15 (d0 : Dev nD) : Nat :=
  let c0_i32_653 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.xori v2 c1_i32_0
  let c1_i32_652 : BitVec 32 := 1#32
  let v657 : BitVec 32 := Scalar.muli v3 c1_i32_652
  let v658 : BitVec 32 := Scalar.addi c0_i32_653 v657
  v658.toNat
def k0_dev16 (d0 : Dev nD) : Nat :=
  let c0_i32_707 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v4 : BitVec 32 := Scalar.xori v2 c2_i32
  let c1_i32_706 : BitVec 32 := 1#32
  let v696 : BitVec 32 := Scalar.muli v4 c1_i32_706
  let v697 : BitVec 32 := Scalar.addi c0_i32_707 v696
  v697.toNat
def k0_dev17 (d0 : Dev nD) : Nat :=
  let c0_i32_761 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v6 : BitVec 32 := Scalar.xori v2 c8_i32
  let c1_i32_760 : BitVec 32 := 1#32
  let v735 : BitVec 32 := Scalar.muli v6 c1_i32_760
  let v736 : BitVec 32 := Scalar.addi c0_i32_761 v735
  v736.toNat
def k0_dev18 (d0 : Dev nD) : Nat :=
  let c0_i32_815 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.xori v2 c1_i32_0
  let c1_i32_814 : BitVec 32 := 1#32
  let v774 : BitVec 32 := Scalar.muli v3 c1_i32_814
  let v775 : BitVec 32 := Scalar.addi c0_i32_815 v774
  v775.toNat
def k0_dev19 (d0 : Dev nD) : Nat :=
  let c0_i32_869 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v4 : BitVec 32 := Scalar.xori v2 c2_i32
  let c1_i32_868 : BitVec 32 := 1#32
  let v813 : BitVec 32 := Scalar.muli v4 c1_i32_868
  let v814 : BitVec 32 := Scalar.addi c0_i32_869 v813
  v814.toNat
def k0_dev20 (d0 : Dev nD) : Nat :=
  let c0_i32_923 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v5 : BitVec 32 := Scalar.xori v2 c4_i32
  let c1_i32_922 : BitVec 32 := 1#32
  let v852 : BitVec 32 := Scalar.muli v5 c1_i32_922
  let v853 : BitVec 32 := Scalar.addi c0_i32_923 v852
  v853.toNat
abbrev stage0_0 : Fin 1 → Memref sig .tc .vmem S2x128x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x128x4x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x128x4x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2x128x512 : Shape := ⟨3, ![2, 128, 512]⟩
abbrev S512x256 : Shape := ⟨2, ![512, 256]⟩
abbrev S2x2048x4x64 : Shape := ⟨4, ![2, 2048, 4, 64]⟩
abbrev S256x512 : Shape := ⟨2, ![256, 512]⟩
abbrev S2x128x256 : Shape := ⟨3, ![2, 128, 256]⟩
abbrev S2x128x4x64 : Shape := ⟨4, ![2, 128, 4, 64]⟩
abbrev S128 : Shape := ⟨1, ![128]⟩
abbrev S_ : Shape := ⟨0, ![]⟩
abbrev S128x1 : Shape := ⟨2, ![128, 1]⟩
abbrev S2048 : Shape := ⟨1, ![2048]⟩
abbrev S1x2048 : Shape := ⟨2, ![1, 2048]⟩
abbrev S128x2048 : Shape := ⟨2, ![128, 2048]⟩
abbrev S2x4x128x2048 : Shape := ⟨4, ![2, 4, 128, 2048]⟩
abbrev S1x1x128x2048 : Shape := ⟨4, ![1, 1, 128, 2048]⟩
abbrev S2x4x128 : Shape := ⟨3, ![2, 4, 128]⟩
abbrev S2x4x128x1 : Shape := ⟨4, ![2, 4, 128, 1]⟩
abbrev S1x1x128x1 : Shape := ⟨4, ![1, 1, 128, 1]⟩
abbrev S2x4x64x128 : Shape := ⟨4, ![2, 4, 64, 128]⟩

abbrev nBuf : Space → Nat
  | .hbm => 123
  | .vmem => 0
  | .smem => 0
  | _ => 0

abbrev bufTy : (tb : Table) → Fin (tcTables nBuf tb) → BufTy
  | .hbm, ⟨0, _⟩ => ⟨S2x128x512, .f32⟩
  | .hbm, ⟨1, _⟩ => ⟨S512x256, .f32⟩
  | .hbm, ⟨2, _⟩ => ⟨S2x2048x4x64, .f32⟩
  | .hbm, ⟨3, _⟩ => ⟨S2x2048x4x64, .f32⟩
  | .hbm, ⟨4, _⟩ => ⟨S256x512, .f32⟩
  | .hbm, ⟨5, _⟩ => ⟨S2x128x256, .f32⟩
  | .hbm, ⟨6, _⟩ => ⟨S2x128x4x64, .f32⟩
  | .hbm, ⟨7, _⟩ => ⟨S128, .i32⟩
  | .hbm, ⟨8, _⟩ => ⟨S_, .i32⟩
  | .hbm, ⟨9, _⟩ => ⟨S_, .i32⟩
  | .hbm, ⟨10, _⟩ => ⟨S128, .i32⟩
  | .hbm, ⟨11, _⟩ => ⟨S128, .i32⟩
  | .hbm, ⟨12, _⟩ => ⟨S128, .i32⟩
  | .hbm, ⟨13, _⟩ => ⟨S_, .i32⟩
  | .hbm, ⟨14, _⟩ => ⟨S128, .i32⟩
  | .hbm, ⟨15, _⟩ => ⟨S128, .i1⟩
  | .hbm, ⟨16, _⟩ => ⟨S128, .i32⟩
  | .hbm, ⟨17, _⟩ => ⟨S128, .i32⟩
  | .hbm, ⟨18, _⟩ => ⟨S_, .i32⟩
  | .hbm, ⟨19, _⟩ => ⟨S128, .i32⟩
  | .hbm, ⟨20, _⟩ => ⟨S128, .i1⟩
  | .hbm, ⟨21, _⟩ => ⟨S128, .i1⟩
  | .hbm, ⟨22, _⟩ => ⟨S_, .i32⟩
  | .hbm, ⟨23, _⟩ => ⟨S128, .i32⟩
  | .hbm, ⟨24, _⟩ => ⟨S128, .i32⟩
  | .hbm, ⟨25, _⟩ => ⟨S128, .i32⟩
  | .hbm, ⟨26, _⟩ => ⟨S128x1, .i32⟩
  | .hbm, ⟨27, _⟩ => ⟨S2048, .i32⟩
  | .hbm, ⟨28, _⟩ => ⟨S_, .i32⟩
  | .hbm, ⟨29, _⟩ => ⟨S_, .i32⟩
  | .hbm, ⟨30, _⟩ => ⟨S2048, .i32⟩
  | .hbm, ⟨31, _⟩ => ⟨S2048, .i32⟩
  | .hbm, ⟨32, _⟩ => ⟨S2048, .i32⟩
  | .hbm, ⟨33, _⟩ => ⟨S_, .i32⟩
  | .hbm, ⟨34, _⟩ => ⟨S2048, .i32⟩
  | .hbm, ⟨35, _⟩ => ⟨S2048, .i1⟩
  | .hbm, ⟨36, _⟩ => ⟨S2048, .i32⟩
  | .hbm, ⟨37, _⟩ => ⟨S2048, .i32⟩
  | .hbm, ⟨38, _⟩ => ⟨S_, .i32⟩
  | .hbm, ⟨39, _⟩ => ⟨S2048, .i32⟩
  | .hbm, ⟨40, _⟩ => ⟨S2048, .i1⟩
  | .hbm, ⟨41, _⟩ => ⟨S2048, .i1⟩
  | .hbm, ⟨42, _⟩ => ⟨S_, .i32⟩
  | .hbm, ⟨43, _⟩ => ⟨S2048, .i32⟩
  | .hbm, ⟨44, _⟩ => ⟨S2048, .i32⟩
  | .hbm, ⟨45, _⟩ => ⟨S2048, .i32⟩
  | .hbm, ⟨46, _⟩ => ⟨S1x2048, .i32⟩
  | .hbm, ⟨47, _⟩ => ⟨S128x2048, .i32⟩
  | .hbm, ⟨48, _⟩ => ⟨S128x2048, .i32⟩
  | .hbm, ⟨49, _⟩ => ⟨S128x2048, .i1⟩
  | .hbm, ⟨50, _⟩ => ⟨S_, .i32⟩
  | .hbm, ⟨51, _⟩ => ⟨S1x2048, .i32⟩
  | .hbm, ⟨52, _⟩ => ⟨S1x2048, .i1⟩
  | .hbm, ⟨53, _⟩ => ⟨S128x2048, .i1⟩
  | .hbm, ⟨54, _⟩ => ⟨S128x2048, .i1⟩
  | .hbm, ⟨55, _⟩ => ⟨S128x2048, .i32⟩
  | .hbm, ⟨56, _⟩ => ⟨S128x2048, .i32⟩
  | .hbm, ⟨57, _⟩ => ⟨S128x2048, .i32⟩
  | .hbm, ⟨58, _⟩ => ⟨S_, .i32⟩
  | .hbm, ⟨59, _⟩ => ⟨S_, .i32⟩
  | .hbm, ⟨60, _⟩ => ⟨S_, .i32⟩
  | .hbm, ⟨61, _⟩ => ⟨S_, .i1⟩
  | .hbm, ⟨62, _⟩ => ⟨S_, .i32⟩
  | .hbm, ⟨63, _⟩ => ⟨S_, .i32⟩
  | .hbm, ⟨64, _⟩ => ⟨S128x2048, .i32⟩
  | .hbm, ⟨65, _⟩ => ⟨S128x2048, .i32⟩
  | .hbm, ⟨66, _⟩ => ⟨S_, .i32⟩
  | .hbm, ⟨67, _⟩ => ⟨S128x2048, .i32⟩
  | .hbm, ⟨68, _⟩ => ⟨S128x2048, .i1⟩
  | .hbm, ⟨69, _⟩ => ⟨S_, .i32⟩
  | .hbm, ⟨70, _⟩ => ⟨S128x2048, .i32⟩
  | .hbm, ⟨71, _⟩ => ⟨S128x2048, .i1⟩
  | .hbm, ⟨72, _⟩ => ⟨S_, .i32⟩
  | .hbm, ⟨73, _⟩ => ⟨S_, .i1⟩
  | .hbm, ⟨74, _⟩ => ⟨S128x2048, .i1⟩
  | .hbm, ⟨75, _⟩ => ⟨S128x2048, .i1⟩
  | .hbm, ⟨76, _⟩ => ⟨S128x2048, .i1⟩
  | .hbm, ⟨77, _⟩ => ⟨S128x2048, .i32⟩
  | .hbm, ⟨78, _⟩ => ⟨S128x2048, .i32⟩
  | .hbm, ⟨79, _⟩ => ⟨S128x2048, .i32⟩
  | .hbm, ⟨80, _⟩ => ⟨S_, .i32⟩
  | .hbm, ⟨81, _⟩ => ⟨S128x2048, .i32⟩
  | .hbm, ⟨82, _⟩ => ⟨S128x2048, .i1⟩
  | .hbm, ⟨83, _⟩ => ⟨S128x2048, .i1⟩
  | .hbm, ⟨84, _⟩ => ⟨S2x4x128x2048, .f32⟩
  | .hbm, ⟨85, _⟩ => ⟨S_, .f32⟩
  | .hbm, ⟨86, _⟩ => ⟨S2x4x128x2048, .f32⟩
  | .hbm, ⟨87, _⟩ => ⟨S2x4x128x2048, .f32⟩
  | .hbm, ⟨88, _⟩ => ⟨S1x1x128x2048, .i1⟩
  | .hbm, ⟨89, _⟩ => ⟨S_, .f32⟩
  | .hbm, ⟨90, _⟩ => ⟨S_, .f32⟩
  | .hbm, ⟨91, _⟩ => ⟨S2x4x128x2048, .i1⟩
  | .hbm, ⟨92, _⟩ => ⟨S2x4x128x2048, .f32⟩
  | .hbm, ⟨93, _⟩ => ⟨S2x4x128x2048, .f32⟩
  | .hbm, ⟨94, _⟩ => ⟨S_, .f32⟩
  | .hbm, ⟨95, _⟩ => ⟨S2x4x128, .f32⟩
  | .hbm, ⟨96, _⟩ => ⟨S2x4x128x1, .f32⟩
  | .hbm, ⟨97, _⟩ => ⟨S2x4x128x2048, .f32⟩
  | .hbm, ⟨98, _⟩ => ⟨S2x4x128x2048, .f32⟩
  | .hbm, ⟨99, _⟩ => ⟨S2x4x128x2048, .f32⟩
  | .hbm, ⟨100, _⟩ => ⟨S_, .i1⟩
  | .hbm, ⟨101, _⟩ => ⟨S128, .i1⟩
  | .hbm, ⟨102, _⟩ => ⟨S1x1x128x1, .i1⟩
  | .hbm, ⟨103, _⟩ => ⟨S_, .f32⟩
  | .hbm, ⟨104, _⟩ => ⟨S2x4x128, .f32⟩
  | .hbm, ⟨105, _⟩ => ⟨S2x4x128x1, .f32⟩
  | .hbm, ⟨106, _⟩ => ⟨S_, .f32⟩
  | .hbm, ⟨107, _⟩ => ⟨S_, .f32⟩
  | .hbm, ⟨108, _⟩ => ⟨S2x4x128x1, .i1⟩
  | .hbm, ⟨109, _⟩ => ⟨S2x4x128x1, .f32⟩
  | .hbm, ⟨110, _⟩ => ⟨S2x4x128x1, .f32⟩
  | .hbm, ⟨111, _⟩ => ⟨S2x4x128x2048, .f32⟩
  | .hbm, ⟨112, _⟩ => ⟨S2x4x128x2048, .f32⟩
  | .hbm, ⟨113, _⟩ => ⟨S1x1x128x1, .i1⟩
  | .hbm, ⟨114, _⟩ => ⟨S_, .f32⟩
  | .hbm, ⟨115, _⟩ => ⟨S_, .f32⟩
  | .hbm, ⟨116, _⟩ => ⟨S2x4x128x2048, .i1⟩
  | .hbm, ⟨117, _⟩ => ⟨S2x4x128x2048, .f32⟩
  | .hbm, ⟨118, _⟩ => ⟨S2x4x128x2048, .f32⟩
  | .hbm, ⟨119, _⟩ => ⟨S2x4x64x128, .f32⟩
  | .hbm, ⟨120, _⟩ => ⟨S2x128x4x64, .f32⟩
  | .hbm, ⟨121, _⟩ => ⟨S2x128x256, .f32⟩
  | .hbm, ⟨122, _⟩ => ⟨S2x128x512, .f32⟩
  | _, _ => ⟨S2x128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_c_1 : Ref sig .tc := ⟨.hbm, 50, rfl⟩
abbrev main_v11 : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_c_2 : Ref sig .tc := ⟨.hbm, 58, rfl⟩
abbrev main_call2_v0 : Ref sig .tc := ⟨.hbm, 59, rfl⟩
abbrev main_call2_c : Ref sig .tc := ⟨.hbm, 60, rfl⟩
abbrev main_call2_v1 : Ref sig .tc := ⟨.hbm, 61, rfl⟩
abbrev main_call2_c_0 : Ref sig .tc := ⟨.hbm, 62, rfl⟩
abbrev main_call2_v2 : Ref sig .tc := ⟨.hbm, 63, rfl⟩
abbrev main_call2_v3 : Ref sig .tc := ⟨.hbm, 64, rfl⟩
abbrev main_call2_v4 : Ref sig .tc := ⟨.hbm, 65, rfl⟩
abbrev main_call2_c_1 : Ref sig .tc := ⟨.hbm, 66, rfl⟩
abbrev main_call2_v5 : Ref sig .tc := ⟨.hbm, 67, rfl⟩
abbrev main_call2_v6 : Ref sig .tc := ⟨.hbm, 68, rfl⟩
abbrev main_call2_c_2 : Ref sig .tc := ⟨.hbm, 69, rfl⟩
abbrev main_call2_v7 : Ref sig .tc := ⟨.hbm, 70, rfl⟩
abbrev main_call2_v8 : Ref sig .tc := ⟨.hbm, 71, rfl⟩
abbrev main_call2_c_3 : Ref sig .tc := ⟨.hbm, 72, rfl⟩
abbrev main_call2_v9 : Ref sig .tc := ⟨.hbm, 73, rfl⟩
abbrev main_call2_v10 : Ref sig .tc := ⟨.hbm, 74, rfl⟩
abbrev main_call2_v11 : Ref sig .tc := ⟨.hbm, 75, rfl⟩
abbrev main_call2_v12 : Ref sig .tc := ⟨.hbm, 76, rfl⟩
abbrev main_call2_v13 : Ref sig .tc := ⟨.hbm, 77, rfl⟩
abbrev main_call2_v14 : Ref sig .tc := ⟨.hbm, 78, rfl⟩
abbrev main_v18 : Ref sig .tc := ⟨.hbm, 79, rfl⟩
abbrev main_c_3 : Ref sig .tc := ⟨.hbm, 80, rfl⟩
abbrev main_v19 : Ref sig .tc := ⟨.hbm, 81, rfl⟩
abbrev main_v20 : Ref sig .tc := ⟨.hbm, 82, rfl⟩
abbrev main_v21 : Ref sig .tc := ⟨.hbm, 83, rfl⟩
abbrev main_v22 : Ref sig .tc := ⟨.hbm, 84, rfl⟩
abbrev main_cst : Ref sig .tc := ⟨.hbm, 85, rfl⟩
abbrev main_v23 : Ref sig .tc := ⟨.hbm, 86, rfl⟩
abbrev main_v24 : Ref sig .tc := ⟨.hbm, 87, rfl⟩
abbrev main_v25 : Ref sig .tc := ⟨.hbm, 88, rfl⟩
abbrev main_cst_4 : Ref sig .tc := ⟨.hbm, 89, rfl⟩
abbrev main_call3_v0 : Ref sig .tc := ⟨.hbm, 90, rfl⟩
abbrev main_call3_v1 : Ref sig .tc := ⟨.hbm, 91, rfl⟩
abbrev main_call3_v2 : Ref sig .tc := ⟨.hbm, 92, rfl⟩
abbrev main_v26 : Ref sig .tc := ⟨.hbm, 93, rfl⟩
abbrev main_cst_5 : Ref sig .tc := ⟨.hbm, 94, rfl⟩
abbrev main_v27 : Ref sig .tc := ⟨.hbm, 95, rfl⟩
abbrev main_v28 : Ref sig .tc := ⟨.hbm, 96, rfl⟩
abbrev main_v29 : Ref sig .tc := ⟨.hbm, 97, rfl⟩
abbrev main_v30 : Ref sig .tc := ⟨.hbm, 98, rfl⟩
abbrev main_v31 : Ref sig .tc := ⟨.hbm, 99, rfl⟩
abbrev main_c_6 : Ref sig .tc := ⟨.hbm, 100, rfl⟩
abbrev main_v32 : Ref sig .tc := ⟨.hbm, 101, rfl⟩
abbrev main_v33 : Ref sig .tc := ⟨.hbm, 102, rfl⟩
abbrev main_cst_7 : Ref sig .tc := ⟨.hbm, 103, rfl⟩
abbrev main_v34 : Ref sig .tc := ⟨.hbm, 104, rfl⟩
abbrev main_v35 : Ref sig .tc := ⟨.hbm, 105, rfl⟩
abbrev main_cst_8 : Ref sig .tc := ⟨.hbm, 106, rfl⟩
abbrev main_call4_v0 : Ref sig .tc := ⟨.hbm, 107, rfl⟩
abbrev main_call4_v1 : Ref sig .tc := ⟨.hbm, 108, rfl⟩
abbrev main_call4_v2 : Ref sig .tc := ⟨.hbm, 109, rfl⟩
abbrev main_v36 : Ref sig .tc := ⟨.hbm, 110, rfl⟩
abbrev main_v37 : Ref sig .tc := ⟨.hbm, 111, rfl⟩
abbrev main_v38 : Ref sig .tc := ⟨.hbm, 112, rfl⟩
abbrev main_v39 : Ref sig .tc := ⟨.hbm, 113, rfl⟩
abbrev main_cst_9 : Ref sig .tc := ⟨.hbm, 114, rfl⟩
abbrev main_call5_v0 : Ref sig .tc := ⟨.hbm, 115, rfl⟩
abbrev main_call5_v1 : Ref sig .tc := ⟨.hbm, 116, rfl⟩
abbrev main_call5_v2 : Ref sig .tc := ⟨.hbm, 117, rfl⟩
abbrev main_v40 : Ref sig .tc := ⟨.hbm, 118, rfl⟩
abbrev main_v41 : Ref sig .tc := ⟨.hbm, 119, rfl⟩
abbrev main_v42 : Ref sig .tc := ⟨.hbm, 120, rfl⟩
abbrev main_v43 : Ref sig .tc := ⟨.hbm, 121, rfl⟩
abbrev main_v44 : Ref sig .tc := ⟨.hbm, 122, rfl⟩

abbrev nD : Nat := 1
abbrev τ : Topo := Topo.v7x

variable {F : FTy → Type} [FloatOps F]
-- ==== Proof.Program.lean ====
/- The kernel's body as a short program over numbered pieces.

   The printed body is a straight line of some two hundred memory operations. Here the same line is
   built out of a few pieces that carry their place as an argument: one head's attention, one
   exchange, one wait with its accumulation, one half of the projection. `body_eq` says the printed
   body is that program, by unfolding.

   Transfers are numbered `n = 4 k + q`, `k` the round and `q` the quarter of the accumulator. -/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

set_option synthInstance.maxSize 4096

noncomputable section

namespace Cert.Proof

open Idealize.ShloMosaic Idealize.SL.Sem Idealize.ShloMosaic.TcCoe
open Cert.KernelIdeal Cert.KernelIdeal.Gen

variable {F : FTy → Type} [FloatOps F]

/-! ## The buffers -/

abbrev mx : Memref sig .tc .vmem S2x128x512 .f32 := Memref.whole cc0_stg0_0
abbrev mWq : Memref sig .tc .vmem S512x256 .f32 := Memref.whole cc0_stg1_0
abbrev mK : Memref sig .tc .vmem S2x128x4x64 .f32 := Memref.whole cc0_stg2_0
abbrev mV : Memref sig .tc .vmem S2x128x4x64 .f32 := Memref.whole cc0_stg3_0
abbrev mWo : Memref sig .tc .vmem S256x512 .f32 := Memref.whole cc0_stg4_0
abbrev mOut : Memref sig .tc .vmem S2x128x512 .f32 := Memref.whole cc0_stg5_0
abbrev mAcc : Memref sig .tc .vmem S2x136x256 .f32 := Memref.whole cc0_scratch0
abbrev mStage : Memref sig .tc .vmem S2x136x256 .bf16 := Memref.whole cc0_scratch1
abbrev mComm : Memref sig .tc .vmem S4x4x136x128 .bf16 := Memref.whole cc0_scratch2

/-! ## The places -/

/-- The batch and the column half of quarter `q`. -/
abbrev qb (q : Fin 4) : ℕ := q.val / 2
abbrev qh (q : Fin 4) : ℕ := q.val % 2
/-- The round and the quarter of transfer `n`. -/
abbrev nk (n : Fin 16) : ℕ := n.val / 4
abbrev nq (n : Fin 16) : Fin 4 := ⟨n.val % 4, Nat.mod_lt _ (by decide)⟩

theorem inbX (b : Fin 2) : ∀ a, (![b.val, 0, 0] : Fin 3 → ℕ) a + S1x128x512.size a ≤ S2x128x512.size a := by
  revert b; decide
theorem inbKV (b : Fin 2) (h : Fin 4) :
    ∀ a, (![b.val, 0, h.val, 0] : Fin 4 → ℕ) a + S1x128x1x64.size a ≤ S2x128x4x64.size a := by
  revert b h; decide
theorem inbZero (b : Fin 2) : ∀ a, (![b.val, 128, 0] : Fin 3 → ℕ) a + S1x8x256.size a ≤ S2x136x256.size a := by
  revert b; decide
theorem inbCols (b : Fin 2) (h : Fin 4) :
    ∀ a, (![b.val, 0, 64 * h.val] : Fin 3 → ℕ) a + S1x128x64.size a ≤ S2x136x256.size a := by
  revert b h; decide
theorem inbRow (b : Fin 2) (h : Fin 4) :
    ∀ a, (![b.val, 128 + h.val % 2, 128 * (h.val / 2)] : Fin 3 → ℕ) a + S1x1x128.size a ≤ S2x136x256.size a := by
  revert b h; decide
theorem inbQ (q : Fin 4) :
    ∀ a, (![qb q, 0, 128 * qh q] : Fin 3 → ℕ) a + S1x136x128.size a ≤ S2x136x256.size a := by
  revert q; decide
theorem inbPair (q : Fin 4) :
    ∀ a, (![qb q, 128, 128 * qh q] : Fin 3 → ℕ) a + S1x2x128.size a ≤ S2x136x256.size a := by
  revert q; decide
theorem inbCtx (q : Fin 4) :
    ∀ a, (![qb q, 0, 128 * qh q] : Fin 3 → ℕ) a + S1x128x128.size a ≤ S2x136x256.size a := by
  revert q; decide
theorem inbWo (q : Fin 4) :
    ∀ a, (![128 * qh q, 0] : Fin 2 → ℕ) a + S128x512.size a ≤ S256x512.size a := by
  revert q; decide
theorem inbSem (n : Fin 16) : ∀ a, (![nk n, (nq n).val] : Fin 2 → ℕ) a + S1x1.size a ≤ S4x4.size a := by
  revert n; decide
theorem inbComm (n : Fin 16) :
    ∀ a, (![nk n, (nq n).val, 0, 0] : Fin 4 → ℕ) a + S1x1x136x128.size a ≤ S4x4x136x128.size a := by
  revert n; decide
theorem slicesQ (h : Fin 4) : S128x256.Slices ![0, 64 * h.val] S128x64 := by
  revert h; decide

abbrev rX (b : Fin 2) := Rect.unit (s := S2x128x512) ![b.val, 0, 0] S1x128x512.size (inbX b)
abbrev rWq := Rect.unit (s := S512x256) ![0, 0] S512x256.size inb_S512x256_S512x256_0_0
abbrev rKV (b : Fin 2) (h : Fin 4) :=
  Rect.unit (s := S2x128x4x64) ![b.val, 0, h.val, 0] S1x128x1x64.size (inbKV b h)
abbrev rZero (b : Fin 2) := Rect.unit (s := S2x136x256) ![b.val, 128, 0] S1x8x256.size (inbZero b)
abbrev rCols (b : Fin 2) (h : Fin 4) :=
  Rect.unit (s := S2x136x256) ![b.val, 0, 64 * h.val] S1x128x64.size (inbCols b h)
abbrev rRow (b : Fin 2) (h : Fin 4) :=
  Rect.unit (s := S2x136x256) ![b.val, 128 + h.val % 2, 128 * (h.val / 2)] S1x1x128.size (inbRow b h)
abbrev rQ (q : Fin 4) := Rect.unit (s := S2x136x256) ![qb q, 0, 128 * qh q] S1x136x128.size (inbQ q)
abbrev rPair (q : Fin 4) := Rect.unit (s := S2x136x256) ![qb q, 128, 128 * qh q] S1x2x128.size (inbPair q)
abbrev rCtx (q : Fin 4) := Rect.unit (s := S2x136x256) ![qb q, 0, 128 * qh q] S1x128x128.size (inbCtx q)
abbrev rWo (q : Fin 4) := Rect.unit (s := S256x512) ![128 * qh q, 0] S128x512.size (inbWo q)
abbrev rSem (n : Fin 16) := Rect.unit (s := S4x4) ![nk n, (nq n).val] S1x1.size (inbSem n)
abbrev rComm (n : Fin 16) :=
  Rect.unit (s := S4x4x136x128) ![nk n, (nq n).val, 0, 0] S1x1x136x128.size (inbComm n)

theorem packedQ (q : Fin 4) : (rQ q).PackedRows (EltTy.packing .bf16) := by
  revert q; decide
theorem wordsQ (q : Fin 4) : (rQ q).WholeWords (EltTy.packing .bf16) := by
  revert q; decide
theorem wordsComm (n : Fin 16) : (rComm n).WholeWords (EltTy.packing .bf16) := by
  revert n; decide

/-- Transfer `n`'s send and receive semaphores, the stage quarter it reads and the slot it fills. -/
abbrev sendSem (n : Fin 16) : DmaSem sig := ((cc0_scratch3.slice (rSem n)).squeeze S_ squeezes_S1x1_S_).sem
abbrev recvSem (n : Fin 16) : DmaSem sig := ((cc0_scratch4.slice (rSem n)).squeeze S_ squeezes_S1x1_S_).sem
abbrev stageQ (q : Fin 4) : Memref sig .tc .vmem S136x128 .bf16 :=
  (mStage.slice (rQ q) (fun _ => rfl)).squeeze S136x128 squeezes_S1x136x128_S136x128
abbrev slot (n : Fin 16) : Memref sig .tc .vmem S136x128 .bf16 :=
  (mComm.slice (rComm n) (fun _ => rfl)).squeeze S136x128 squeezes_S1x1x136x128_S136x128

theorem wStage (q : Fin 4) : (stageQ q).view.WordExact :=
  ((Memref.isWhole_whole cc0_scratch1).wordExact_slice rfl _ (wordsQ q)).reshape _ _
theorem wSlot (n : Fin 16) : (slot n).view.WordExact :=
  ((Memref.isWhole_whole cc0_scratch2).wordExact_slice rfl _ (wordsComm n)).reshape _ _

/-- The axis along which transfer `n` goes. -/
abbrev axis (n : Fin 16) : Fin 4 := ⟨(n.val / 4 + n.val % 4) % 4, Nat.mod_lt _ (by decide)⟩

/-- The neighbour of device `c` along axis `j`, as the kernel computes it. -/
def peerNat (j : Fin 4) (c : Dev nD) : ℕ :=
  (Scalar.addi 0#32 (Scalar.muli (Scalar.xori (Scalar.remsi (Scalar.divsi (Dev.word c) 1#32) 16#32)
    (BitVec.ofNat 32 (2 ^ j.val))) 1#32)).toNat
theorem peerNat_lt (j : Fin 4) (c : Dev nD) : peerNat j c < nD := by
  revert j c; decide +kernel
def peer (j : Fin 4) (c : Dev nD) : Dev nD := ⟨peerNat j c, peerNat_lt j c⟩

/-! ## The values -/

/-- Which of a device's keys each row of queries attends to. -/
def maskOf (c : Dev nD) : IVec S128x128 1 :=
  k0_pay5 (Scalar.remsi (Scalar.divsi (Dev.word c) 1#32) 16#32) k0_pay2
    (iota .tc S128x128 32 [1] iota_S128x128_d1_w32) 64#32 k0_pay3 k0_pay4 0#32

/-- The matrix that copies a pair's two sums to the columns of their heads. -/
def expandMat : FVec F S2x128 .bf16 :=
  k0_pay8 (iota .tc S2x128 32 [1] iota_S2x128_d1_w32) 64#32 k0_pay7

def zeros8 : FVec F S1x8x256 .f32 :=
  shapeCast S1x8x256 (broadcast S8x256 (Scalar.ofBits .f32 0x00000000#32)) shapeCasts_S8x256_S1x8x256

/-- One batch's queries. -/
def queries (x : Vec F S1x128x512 .f32) (wq : Vec F S512x256 .f32) : FVec F S128x256 .f32 :=
  matmul dot_S128x512_S512x256_S128x256_1_0_0_1_n_n none
    (truncf .bf16 (shapeCast S128x512 x shapeCasts_S1x128x512_S128x512) bitsLt_bf16_f32)
    (truncf .bf16 (shapeCast S512x256 wq shapeCasts_S512x256_S512x256) bitsLt_bf16_f32)
    (constant S128x256 .f32 0x00000000#32)

/-- The weights of one head: the exponential of the scaled scores where the mask holds. -/
def weights (mask : IVec S128x128 1) (qv : FVec F S128x256 .f32) (h : Fin 4)
    (k : Vec F S1x128x1x64 .f32) : FVec F S128x128 .bf16 :=
  truncf .bf16 (select mask
    (exp (mulf (matmul dot_S128x64_S128x64_S128x128_1_1_0_0_n_n none
        (truncf .bf16 (extractStridedSlice S128x64 ![0, 64 * h.val] qv (slicesQ h)) bitsLt_bf16_f32)
        (truncf .bf16 (shapeCast S128x64 k shapeCasts_S1x128x1x64_S128x64) bitsLt_bf16_f32)
        (constant S128x128 .f32 0x00000000#32))
      (broadcast S128x128 (Scalar.ofBits .f32 0x3E000000#32))))
    (broadcast S128x128 (Scalar.ofBits .f32 0x00000000#32))) bitsLt_bf16_f32

/-- One head's weighted values. -/
def headOut (w : FVec F S128x128 .bf16) (v : Vec F S1x128x1x64 .f32) : FVec F S1x128x64 .f32 :=
  shapeCast S1x128x64 (matmul dot_S128x128_S128x64_S128x64_1_0_0_1_n_n none w
    (truncf .bf16 (shapeCast S128x64 v shapeCasts_S1x128x1x64_S128x64) bitsLt_bf16_f32)
    (constant S128x64 .f32 0x00000000#32)) shapeCasts_S128x64_S1x128x64

/-- One head's sums of weights. -/
def headSum (w : FVec F S128x128 .bf16) : FVec F S1x1x128 .f32 :=
  shapeCast S1x1x128 (matmul dot_S1x128_S128x128_S1x128_1_1_0_0_n_n none (k0_pay6 (F := F)) w
    (constant S1x128 .f32 0x00000000#32)) shapeCasts_S1x128_S1x1x128

/-- A quarter as it is sent. -/
def rounded (t : Vec F S1x136x128 .f32) : FVec F S1x136x128 .bf16 :=
  shapeCast S1x136x128 (truncf .bf16 (shapeCast S136x128 t shapeCasts_S1x136x128_S136x128) bitsLt_bf16_f32)
    shapeCasts_S136x128_S1x136x128

/-- A quarter with what was received added. -/
def addedTo (t : Vec F S1x136x128 .f32) (r : Vec F S1x1x136x128 .bf16) : FVec F S1x136x128 .f32 :=
  shapeCast S1x136x128 (addf (shapeCast S136x128 t shapeCasts_S1x136x128_S136x128)
    (extf .f32 (shapeCast S136x128 r shapeCasts_S1x1x136x128_S136x128) bitsLt_bf16_f32))
    shapeCasts_S136x128_S1x136x128

/-- Half of the projection: a quarter's rows divided by their sums, times half of the weights. -/
def halfProj (s : Vec F S1x2x128 .f32) (a : Vec F S1x128x128 .f32) (wo : Vec F S128x512 .f32) : FVec F S128x512 .f32 :=
  matmul dot_S128x128_S128x512_S128x512_1_0_0_1_n_n none
    (truncf .bf16 (divf (shapeCast S128x128 a shapeCasts_S1x128x128_S128x128)
      (matmul dot_S128x2_S2x128_S128x128_1_0_0_1_n_n none
        (truncf .bf16 (transpose S128x2 [1, 0] (shapeCast S2x128 s shapeCasts_S1x2x128_S2x128)
          transposes_S2x128_p1_0_S128x2) bitsLt_bf16_f32)
        (expandMat (F := F)) (constant S128x128 .f32 0x00000000#32))) bitsLt_bf16_f32)
    (truncf .bf16 (shapeCast S128x512 wo shapeCasts_S128x512_S128x512) bitsLt_bf16_f32)
    (constant S128x512 .f32 0x00000000#32)

/-- The two halves of the projection together. -/
def bothHalves (u v : FVec F S128x512 .f32) : FVec F S1x128x512 .f32 :=
  shapeCast S1x128x512 (addf u v) shapeCasts_S128x512_S1x128x512

/-! ## The pieces -/

abbrev KProg (F : FTy → Type) [FloatOps F] (α : Type) := Prog (TpuEff nD τ sig (Elt F) Λ₀ .tc) α

def zeroRows (b : Fin 2) : KProg F PUnit := do
  let _ : Vec F S1x8x256 .f32 ← Prog.lift (.load mAcc (rZero b).toLoadRect (View.loadsAt_vmem h_S1x8x256))
  Prog.lift (.store mAcc (rZero b) (zeros8 (F := F)) Finset.univ (View.stores_vmem_bits_univ h_S1x8x256 rfl) (.inl rfl))

def loadQueries (b : Fin 2) : KProg F (FVec F S128x256 .f32) := do
  let x : Vec F S1x128x512 .f32 ← Prog.lift (.load mx (rX b).toLoadRect (View.loadsAt_vmem h_S1x128x512))
  let wq : Vec F S512x256 .f32 ← Prog.lift (.load mWq rWq.toLoadRect (View.loadsAt_vmem h_S512x256))
  pure (queries x wq)

def head (mask : IVec S128x128 1) (qv : FVec F S128x256 .f32) (b : Fin 2) (h : Fin 4) : KProg F PUnit := do
  let k : Vec F S1x128x1x64 .f32 ← Prog.lift (.load mK (rKV b h).toLoadRect (View.loadsAt_vmem h_S1x128x1x64))
  let v : Vec F S1x128x1x64 .f32 ← Prog.lift (.load mV (rKV b h).toLoadRect (View.loadsAt_vmem h_S1x128x1x64))
  let _ : Vec F S1x128x64 .f32 ← Prog.lift (.load mAcc (rCols b h).toLoadRect (View.loadsAt_vmem h_S1x128x64))
  Prog.lift (.store mAcc (rCols b h) (headOut (weights mask qv h k) v) Finset.univ
    (View.stores_vmem_bits_univ h_S1x128x64 rfl) (.inl rfl))
  let _ : Vec F S1x1x128 .f32 ← Prog.lift (.load mAcc (rRow b h).toLoadRect (View.loadsAt_vmem h_S1x1x128))
  Prog.lift (.store mAcc (rRow b h) (headSum (weights mask qv h k)) Finset.univ
    (View.stores_vmem_bits_univ h_S1x1x128 rfl) (.inl rfl))

abbrev barSem : Sem sig := (SemArray.scalar (sig.barrier 0 rfl) : Sems sig S_).sem

def barrierAll (c : Dev nD) : KProg F PUnit := do
  semSignalWord (peer 0 c) barSem 1#32
  semSignalWord (peer 1 c) barSem 1#32
  semSignalWord (peer 2 c) barSem 1#32
  semSignalWord (peer 3 c) barSem 1#32
  semWaitWord barSem 4#32

def exchange (c : Dev nD) (n : Fin 16) : KProg F PUnit := do
  let t : Vec F S1x136x128 .f32 ← Prog.lift (.load mAcc (rQ (nq n)).toLoadRect (View.loadsAt_vmem h_S1x136x128))
  let _ : Vec F S1x136x128 .bf16 ← Prog.lift (.load mStage (rQ (nq n)).toLoadRect (View.loadsAt_vmem h_S1x136x128))
  Prog.lift (.store mStage (rQ (nq n)) (rounded t) Finset.univ
    (View.stores_vmem h_S1x136x128 ((Memref.isWhole_whole cc0_scratch1).storeExact_slice rfl _ (packedQ (nq n))) (fun _ => rfl)) (.inl rfl))
  Prog.lift (.enqueueDma (stageQ (nq n)) (.remote (Dev.tc (peer (axis n) c)) (slot n) (.dma (sendSem n)))
    (.dma (recvSem n)) (wStage (nq n)) (wSlot n) ⟨⟨rfl, Or.inl rfl⟩, trivial⟩)

def accumulate (n : Fin 16) : KProg F PUnit := do
  Prog.lift (.waitDma2 (sendSem n) (slot n) (stageQ (nq n)) (wSlot n) (wStage (nq n)))
  Prog.lift (.waitDma2 (recvSem n) (stageQ (nq n)) (slot n) (wStage (nq n)) (wSlot n))
  let t : Vec F S1x136x128 .f32 ← Prog.lift (.load mAcc (rQ (nq n)).toLoadRect (View.loadsAt_vmem h_S1x136x128))
  let r : Vec F S1x1x136x128 .bf16 ← Prog.lift (.load mComm (rComm n).toLoadRect (View.loadsAt_vmem h_S1x1x136x128))
  let _ : Vec F S1x136x128 .f32 ← Prog.lift (.load mAcc (rQ (nq n)).toLoadRect (View.loadsAt_vmem h_S1x136x128))
  Prog.lift (.store mAcc (rQ (nq n)) (addedTo t r) Finset.univ (View.stores_vmem_bits_univ h_S1x136x128 rfl) (.inl rfl))

def project (q : Fin 4) : KProg F (FVec F S128x512 .f32) := do
  let s : Vec F S1x2x128 .f32 ← Prog.lift (.load mAcc (rPair q).toLoadRect (View.loadsAt_vmem h_S1x2x128))
  let a : Vec F S1x128x128 .f32 ← Prog.lift (.load mAcc (rCtx q).toLoadRect (View.loadsAt_vmem h_S1x128x128))
  let wo : Vec F S128x512 .f32 ← Prog.lift (.load mWo (rWo q).toLoadRect (View.loadsAt_vmem h_S128x512))
  pure (halfProj s a wo)

def storeOut (b : Fin 2) (o : FVec F S1x128x512 .f32) : KProg F PUnit := do
  let _ : Vec F S1x128x512 .f32 ← Prog.lift (.load mOut (rX b).toLoadRect (View.loadsAt_vmem h_S1x128x512))
  Prog.lift (.store mOut (rX b) o Finset.univ (View.stores_vmem_bits_univ h_S1x128x512 rfl) (.inl rfl))

/-- One round's step at one quarter, and the send that follows it. -/
def step (c : Dev nD) (n m : Fin 16) : KProg F PUnit := do
  accumulate n
  exchange c m

/-- The two heads of quarter `2 b + j`. -/
def twoHeads (mask : IVec S128x128 1) (qv : FVec F S128x256 .f32) (b j : Fin 2) : KProg F PUnit := do
  head mask qv b ⟨2 * j.val, by omega⟩
  head mask qv b ⟨2 * j.val + 1, by omega⟩

/-- A device's own sums, each quarter sent as soon as it is there. -/
def opening (c : Dev nD) : KProg F PUnit := do
  zeroRows 0
  let q0 ← loadQueries 0
  twoHeads (maskOf c) q0 0 0
  barrierAll c
  exchange c 0
  twoHeads (maskOf c) q0 0 1
  exchange c 1
  zeroRows 1
  let q1 ← loadQueries 1
  twoHeads (maskOf c) q1 1 0
  exchange c 2
  twoHeads (maskOf c) q1 1 1
  exchange c 3

/-- Three rounds, every arrival sent on along the next axis. -/
def rounds (c : Dev nD) : KProg F PUnit := do
  step c 0 4
  step c 1 5
  step c 2 6
  step c 3 7
  step c 4 8
  step c 5 9
  step c 6 10
  step c 7 11
  step c 8 12
  step c 9 13
  step c 10 14
  step c 11 15

/-- The last arrivals of one batch's two quarters, each followed by its half of the projection. -/
def finish (n m : Fin 16) (q p : Fin 4) (b : Fin 2) : KProg F PUnit := do
  accumulate n
  let u ← project q
  accumulate m
  let v ← project p
  storeOut b (bothHalves u v)

/-- The last round and the projection. -/
def closing : KProg F PUnit := do
  finish 12 13 0 1 0
  finish 14 15 2 3 1

/-- The whole body on device `c`. -/
def body (c : Dev nD) : KProg F PUnit := do
  opening c
  rounds c
  closing

set_option maxRecDepth 65536 in
theorem body_eq : bodyAt0 (F := F) t0_0 = (Prog.lift .deviceId).bind body := by
  rw [show (body : Dev nD → KProg F PUnit) = fun c => body c from rfl]
  unfold body opening rounds closing finish twoHeads
  simp only [bind_assoc]
  rfl

end Cert.Proof

end
-- ==== Proof.Contents.lean ====
/- What the accumulator holds: its four quarters, and what each store does to them. -/
module

public import proofs.«01_k».proof.Proof.Program

@[expose] public section

noncomputable section

namespace Cert.Proof

open Idealize.ShloMosaic Idealize.SL.Sem Idealize.ShloMosaic.TcCoe
open Cert.KernelIdeal Cert.KernelIdeal.Gen

/-- A store through a block of unit steps, read at one element. -/
theorem write_unit_apply {Val : EltTy → Type} {κ : Kind} (b : Ref sig κ) {off size : Fin b.ty.shape.rank → ℕ}
    (inb : ∀ a, off a + size a ≤ b.ty.shape.size a) (f : b.ty.Contents Val)
    (w : (Rect.unit off size inb).shape.Idx → Val b.ty.elt) (i : b.ty.shape.Idx) :
    ((View.whole b).slice (Rect.unit off size inb)).write Val f w Finset.univ i
      = if h : ∀ a, off a ≤ (i a).val ∧ (i a).val < off a + size a then
          w (fun a => ⟨(i a).val - off a, by have := h a; show _ < size a; omega⟩)
        else f i := by
  split
  · rename_i h
    have hi : i = ((View.whole b).slice (Rect.unit off size inb)).emb
        (fun a => ⟨(i a).val - off a, by have := h a; show _ < size a; omega⟩) := by
      funext a
      apply Fin.ext
      show (i a).val = off a + 1 * ((i a).val - off a)
      have := h a; omega
    conv_lhs => rw [hi]
    exact View.write_emb_of_mem (v := (View.whole b).slice (Rect.unit off size inb)) (Val := Val) f w (Finset.mem_univ _)
  · rename_i h
    refine View.write_of_not_mem (v := (View.whole b).slice (Rect.unit off size inb)) (Val := Val) f w _ ?_
    intro hm
    apply h
    have : i ∈ (Rect.unit off size inb).set := by
      have h2 := hm
      rw [View.setOn_univ, View.set_slice_whole] at h2
      exact h2
    exact Rect.mem_set_unit.mp this

variable {F : FTy → Type} [FloatOps F]

/-- Quarter `q` of the accumulator's contents. -/
def accRead (q : Fin 4) (f : mAcc.view.ty.Contents (Elt F)) : Vec F S1x136x128 .f32 :=
  (mAcc.access (rQ q)).read (Elt F) f

/-- A tile with its rows of sums cleared. -/
def cleared (t : Vec F S1x136x128 .f32) : Vec F S1x136x128 .f32 :=
  fun j => if 128 ≤ (j 1).val then Scalar.ofBits .f32 0x00000000#32 else t j

/-- A tile with one head's values and sums put in. -/
def withHead (h : Fin 4) (o : Vec F S1x128x64 .f32) (s : Vec F S1x1x128 .f32) (t : Vec F S1x136x128 .f32) :
    Vec F S1x136x128 .f32 :=
  fun j =>
    if hs : (j 1).val = 128 + h.val % 2 then s (fun a => match a with | 0 => ⟨0, by decide⟩ | 1 => ⟨0, by decide⟩ | 2 => ⟨(j 2).val, (j 2).isLt⟩)
    else if ho : (j 1).val < 128 ∧ (j 2).val / 64 = h.val % 2 then
      o (fun a => match a with | 0 => ⟨0, by decide⟩ | 1 => ⟨(j 1).val, ho.1⟩ | 2 => ⟨(j 2).val % 64, Nat.mod_lt _ (by decide)⟩)
    else t j

/-- The quarter that head `h` of batch `b` belongs to. -/
abbrev quarterOf (b : Fin 2) (h : Fin 4) : Fin 4 := ⟨2 * b.val + h.val / 2, by omega⟩

theorem accRead_apply (q : Fin 4) (f : mAcc.view.ty.Contents (Elt F)) (j : S1x136x128.Idx) :
    accRead q f j = f ((rQ q).emb j) := rfl

theorem acc_store_apply {off size : Fin 3 → ℕ} (inb : ∀ a, off a + size a ≤ S2x136x256.size a)
    (f : mAcc.view.ty.Contents (Elt F)) (w : (Rect.unit (s := S2x136x256) off size inb).shape.Idx → F .f32) (i : S2x136x256.Idx) :
    (mAcc.access (Rect.unit (s := S2x136x256) off size inb)).write (Elt F) f w Finset.univ i
      = if h : ∀ a, off a ≤ (i a).val ∧ (i a).val < off a + size a then
          w (fun a => ⟨(i a).val - off a, by have := h a; show _ < size a; omega⟩)
        else f i :=
  write_unit_apply cc0_scratch0 inb f w i

theorem accRead_store (q : Fin 4) (f : mAcc.view.ty.Contents (Elt F)) (w : Vec F S1x136x128 .f32) (q' : Fin 4) :
    accRead q' ((mAcc.access (rQ q)).write (Elt F) f w Finset.univ) = Function.update (fun p => accRead p f) q w q' := by
  funext j
  show ((View.whole cc0_scratch0).slice (rQ q)).write (Elt F) f w Finset.univ ((rQ q').emb j) = _
  rw [write_unit_apply cc0_scratch0 (inbQ q) f w]
  have hj0 : (j 0).val < 1 := (j 0).isLt
  have hj1 : (j 1).val < 136 := (j 1).isLt
  have hj2 : (j 2).val < 128 := (j 2).isLt
  by_cases hq : q' = q
  · subst hq
    rw [Function.update_self, dif_pos]
    · congr 1
      funext a
      apply Fin.ext
      show ((![qb q', 0, 128 * qh q'] : Fin 3 → ℕ) a + 1 * (j a).val) - (![qb q', 0, 128 * qh q'] : Fin 3 → ℕ) a = (j a).val
      omega
    · intro a
      show (![qb q', 0, 128 * qh q'] : Fin 3 → ℕ) a ≤ (![qb q', 0, 128 * qh q'] : Fin 3 → ℕ) a + 1 * (j a).val ∧ _
      refine ⟨by omega, ?_⟩
      show (![qb q', 0, 128 * qh q'] : Fin 3 → ℕ) a + 1 * (j a).val < (![qb q', 0, 128 * qh q'] : Fin 3 → ℕ) a + S1x136x128.size a
      have := (j a).isLt
      have : (j a).val < S1x136x128.size a := this
      omega
  · rw [Function.update_of_ne hq, dif_neg]
    · rfl
    · intro h
      have h0 := h 0
      have h2 := h 2
      change qb q ≤ qb q' + 1 * (j 0).val ∧ qb q' + 1 * (j 0).val < qb q + 1 at h0
      change 128 * qh q ≤ 128 * qh q' + 1 * (j 2).val ∧ 128 * qh q' + 1 * (j 2).val < 128 * qh q + 128 at h2
      apply hq
      apply Fin.ext
      simp only [qb, qh] at h0 h2
      omega

theorem zeros8_apply (j) : zeros8 (F := F) j = Scalar.ofBits .f32 0x00000000#32 := rfl

theorem accRead_const (b : Fin 2) (f : mAcc.view.ty.Contents (Elt F)) (z : Vec F S1x8x256 .f32)
    (hz : ∀ j, z j = Scalar.ofBits .f32 0x00000000#32) (q : Fin 4) :
    accRead q ((mAcc.access (rZero b)).write (Elt F) f z Finset.univ)
      = if qb q = b.val then cleared (accRead q f) else accRead q f := by
  funext j
  rw [accRead_apply, acc_store_apply]
  have hj0 : (j 0).val < 1 := (j 0).isLt
  have hj1 : (j 1).val < 136 := (j 1).isLt
  have hj2 : (j 2).val < 128 := (j 2).isLt
  have hb := b.isLt
  have hq := q.isLt
  unfold cleared
  by_cases hqb : qb q = b.val
  · rw [if_pos hqb]
    by_cases h1 : 128 ≤ (j 1).val
    · rw [dif_pos, hz, if_pos h1]
      intro a
      match a with
      | 0 => show b.val ≤ qb q + 1 * (j 0).val ∧ qb q + 1 * (j 0).val < b.val + 1; omega
      | 1 => show 128 ≤ 0 + 1 * (j 1).val ∧ 0 + 1 * (j 1).val < 128 + 8; omega
      | 2 => show 0 ≤ 128 * qh q + 1 * (j 2).val ∧ 128 * qh q + 1 * (j 2).val < 0 + 256; simp only [qh]; omega
    · rw [dif_neg, if_neg h1]
      · rfl
      · intro h
        have h1' := h 1
        change 128 ≤ 0 + 1 * (j 1).val ∧ _ at h1'
        omega
  · rw [if_neg hqb, dif_neg]
    · rfl
    · intro h
      have h0 := h 0
      change b.val ≤ qb q + 1 * (j 0).val ∧ qb q + 1 * (j 0).val < b.val + 1 at h0
      omega

theorem accRead_zero (b : Fin 2) (f : mAcc.view.ty.Contents (Elt F)) (q : Fin 4) :
    accRead q ((mAcc.access (rZero b)).write (Elt F) f (zeros8 (F := F)) Finset.univ)
      = if qb q = b.val then cleared (accRead q f) else accRead q f :=
  accRead_const b f _ zeros8_apply q

theorem accRead_head (b : Fin 2) (h : Fin 4) (f : mAcc.view.ty.Contents (Elt F)) (o : Vec F S1x128x64 .f32)
    (s : Vec F S1x1x128 .f32) (q : Fin 4) :
    accRead q ((mAcc.access (rRow b h)).write (Elt F) ((mAcc.access (rCols b h)).write (Elt F) f o Finset.univ) s Finset.univ)
      = Function.update (fun p => accRead p f) (quarterOf b h) (withHead h o s (accRead (quarterOf b h) f)) q := by
  funext j
  show ((View.whole cc0_scratch0).slice (rRow b h)).write (Elt F)
    (((View.whole cc0_scratch0).slice (rCols b h)).write (Elt F) f o Finset.univ) s Finset.univ ((rQ q).emb j) = _
  rw [write_unit_apply cc0_scratch0 (inbRow b h), write_unit_apply cc0_scratch0 (inbCols b h)]
  have hj0 : (j 0).val < 1 := (j 0).isLt
  have hj1 : (j 1).val < 136 := (j 1).isLt
  have hj2 : (j 2).val < 128 := (j 2).isLt
  have hb := b.isLt
  have hh := h.isLt
  have hq' := q.isLt
  by_cases hq : q = quarterOf b h
  · subst hq
    rw [Function.update_self]
    unfold withHead
    have eb : qb (quarterOf b h) = b.val := by simp only [qb]; omega
    have eh : qh (quarterOf b h) = h.val / 2 := by simp only [qh]; omega
    split
    · rename_i hc
      have h1 := hc 1
      change 128 + h.val % 2 ≤ 0 + 1 * (j 1).val ∧ 0 + 1 * (j 1).val < 128 + h.val % 2 + 1 at h1
      rw [dif_pos (by omega)]
      congr 1
      funext a
      apply Fin.ext
      match a with
      | 0 => show qb (quarterOf b h) + 1 * (j 0).val - b.val = 0; omega
      | 1 => show 0 + 1 * (j 1).val - (128 + h.val % 2) = 0; omega
      | 2 => show 128 * qh (quarterOf b h) + 1 * (j 2).val - 128 * (h.val / 2) = (j 2).val; rw [eh]; omega
    · rename_i hc
      rw [dif_neg (c := (j 1).val = 128 + h.val % 2)]
      swap
      · intro h1
        apply hc
        intro a
        match a with
        | 0 => show b.val ≤ qb (quarterOf b h) + 1 * (j 0).val ∧ qb (quarterOf b h) + 1 * (j 0).val < b.val + 1; omega
        | 1 => show 128 + h.val % 2 ≤ 0 + 1 * (j 1).val ∧ 0 + 1 * (j 1).val < 128 + h.val % 2 + 1; omega
        | 2 =>
          show 128 * (h.val / 2) ≤ 128 * qh (quarterOf b h) + 1 * (j 2).val ∧
            128 * qh (quarterOf b h) + 1 * (j 2).val < 128 * (h.val / 2) + 128
          rw [eh]; omega
      split
      · rename_i hd
        have h1 := hd 1
        have h2 := hd 2
        change 0 ≤ 0 + 1 * (j 1).val ∧ 0 + 1 * (j 1).val < 0 + 128 at h1
        change 64 * h.val ≤ 128 * qh (quarterOf b h) + 1 * (j 2).val ∧
          128 * qh (quarterOf b h) + 1 * (j 2).val < 64 * h.val + 64 at h2
        rw [eh] at h2
        rw [dif_pos ⟨by omega, by omega⟩]
        congr 1
        funext a
        apply Fin.ext
        match a with
        | 0 => show qb (quarterOf b h) + 1 * (j 0).val - b.val = 0; omega
        | 1 => show 0 + 1 * (j 1).val - 0 = (j 1).val; omega
        | 2 => show 128 * qh (quarterOf b h) + 1 * (j 2).val - 64 * h.val = (j 2).val % 64; rw [eh]; omega
      · rename_i hd
        rw [dif_neg]
        · rfl
        · intro ho
          apply hd
          intro a
          match a with
          | 0 => show b.val ≤ qb (quarterOf b h) + 1 * (j 0).val ∧ qb (quarterOf b h) + 1 * (j 0).val < b.val + 1; omega
          | 1 => show 0 ≤ 0 + 1 * (j 1).val ∧ 0 + 1 * (j 1).val < 0 + 128; omega
          | 2 =>
            show 64 * h.val ≤ 128 * qh (quarterOf b h) + 1 * (j 2).val ∧
              128 * qh (quarterOf b h) + 1 * (j 2).val < 64 * h.val + 64
            rw [eh]; omega
  · rw [Function.update_of_ne hq]
    have hne : ¬ (qb q = b.val ∧ qh q = h.val / 2) := by
      rintro ⟨e1, e2⟩
      apply hq
      apply Fin.ext
      simp only [qb, qh] at e1 e2
      show q.val = 2 * b.val + h.val / 2
      omega
    rw [dif_neg, dif_neg]
    · rfl
    · intro hd
      have h0 := hd 0
      have h2 := hd 2
      change b.val ≤ qb q + 1 * (j 0).val ∧ qb q + 1 * (j 0).val < b.val + 1 at h0
      change 64 * h.val ≤ 128 * qh q + 1 * (j 2).val ∧ 128 * qh q + 1 * (j 2).val < 64 * h.val + 64 at h2
      apply hne
      simp only [qb, qh] at *
      omega
    · intro hd
      have h0 := hd 0
      have h2 := hd 2
      change b.val ≤ qb q + 1 * (j 0).val ∧ qb q + 1 * (j 0).val < b.val + 1 at h0
      change 128 * (h.val / 2) ≤ 128 * qh q + 1 * (j 2).val ∧
        128 * qh q + 1 * (j 2).val < 128 * (h.val / 2) + 128 at h2
      apply hne
      simp only [qb, qh] at *
      omega

/-- The rows of values and the pair of rows of sums of a tile, as the projection reads them. -/
def tileCtx (t : Vec F S1x136x128 .f32) : Vec F S1x128x128 .f32 :=
  fun j => t (fun a => match a with
    | 0 => j 0 | 1 => ⟨(j 1).val, lt_of_lt_of_le (j 1).isLt (by decide)⟩ | 2 => j 2)
def tileSums (t : Vec F S1x136x128 .f32) : Vec F S1x2x128 .f32 :=
  fun j => t (fun a => match a with
    | 0 => j 0 | 1 => ⟨128 + (j 1).val, by have : (j 1).val < 2 := (j 1).isLt; show _ < 136; omega⟩ | 2 => j 2)

theorem read_ctx (q : Fin 4) (f : mAcc.view.ty.Contents (Elt F)) :
    (mAcc.access (rCtx q)).read (Elt F) f = tileCtx (accRead q f) := by
  funext j
  show f ((rCtx q).emb j) = f ((rQ q).emb _)
  congr 1
  funext a
  apply Fin.ext
  match a with
  | 0 => rfl
  | 1 => rfl
  | 2 => rfl
theorem read_sums (q : Fin 4) (f : mAcc.view.ty.Contents (Elt F)) :
    (mAcc.access (rPair q)).read (Elt F) f = tileSums (accRead q f) := by
  funext j
  show f ((rPair q).emb j) = f ((rQ q).emb _)
  congr 1
  funext a
  apply Fin.ext
  match a with
  | 0 => rfl
  | 1 => show 128 + 1 * (j 1).val = 0 + 1 * (128 + (j 1).val); omega
  | 2 => rfl

/-- The result from its two batches. -/
def outOf (o0 o1 : Vec F S1x128x512 .f32) : Vec F S2x128x512 .f32 :=
  fun i => (if (i 0).val = 0 then o0 else o1) (fun a => match a with | 0 => ⟨0, by decide⟩ | 1 => i 1 | 2 => i 2)

theorem write_out (f : mOut.view.ty.Contents (Elt F)) (o0 o1 : Vec F S1x128x512 .f32) :
    (mOut.access (rX 1)).write (Elt F) ((mOut.access (rX 0)).write (Elt F) f o0 Finset.univ) o1 Finset.univ
      = outOf o0 o1 := by
  funext i
  show ((View.whole cc0_stg5_0).slice (rX 1)).write (Elt F)
    (((View.whole cc0_stg5_0).slice (rX 0)).write (Elt F) f o0 Finset.univ) o1 Finset.univ i = _
  rw [write_unit_apply cc0_stg5_0 (inbX 1), write_unit_apply cc0_stg5_0 (inbX 0)]
  have hi0 : (i 0).val < 2 := (i 0).isLt
  have hi1 : (i 1).val < 128 := (i 1).isLt
  have hi2 : (i 2).val < 512 := (i 2).isLt
  unfold outOf
  split
  · rename_i h
    have h0 := h 0
    change 1 ≤ (i 0).val ∧ _ at h0
    rw [if_neg (by omega)]
    congr 1
    funext a
    apply Fin.ext
    match a with
    | 0 => show (i 0).val - 1 = 0; omega
    | 1 => rfl
    | 2 => rfl
  · rename_i h
    have h0 : (i 0).val = 0 := by
      by_contra hne
      apply h
      intro a
      match a with
      | 0 => show 1 ≤ (i 0).val ∧ (i 0).val < 1 + 1; omega
      | 1 => show 0 ≤ (i 1).val ∧ (i 1).val < 0 + 128; omega
      | 2 => show 0 ≤ (i 2).val ∧ (i 2).val < 0 + 512; omega
    rw [if_pos h0, dif_pos]
    · congr 1
      funext a
      apply Fin.ext
      match a with
      | 0 => show (i 0).val - 0 = 0; omega
      | 1 => rfl
      | 2 => rfl
    · intro a
      match a with
      | 0 => show 0 ≤ (i 0).val ∧ (i 0).val < 0 + 1; omega
      | 1 => show 0 ≤ (i 1).val ∧ (i 1).val < 0 + 128; omega
      | 2 => show 0 ≤ (i 2).val ∧ (i 2).val < 0 + 512; omega

/-- A rounded quarter as it lies in a slot of the receive buffer. -/
def toSlot (t : Vec F S1x136x128 .bf16) : Vec F S1x1x136x128 .bf16 :=
  shapeCast S1x1x136x128 t (by decide)

/-- What slot `n` holds, as the kernel reads it. -/
def slotRead (n : Fin 16) (f : mComm.view.ty.Contents (Elt F)) : Vec F S1x1x136x128 .bf16 :=
  (mComm.access (rComm n)).read (Elt F) f

/-- A slot filled from a stage quarter. -/
theorem slotRead_filled (n : Fin 16) (fd : mComm.view.ty.Contents (Elt F)) (fs : mStage.view.ty.Contents (Elt F))
    (w : Vec F S1x136x128 .bf16) (h : (mStage.access (rQ (nq n))).read (Elt F) fs = w) :
    slotRead n ((slot n).view.write (Elt F) fd ((stageQ (nq n)).view.read (Elt F) fs) Finset.univ) = toSlot w := by
  funext j
  obtain ⟨x, rfl⟩ := (Shape.reshapeEquiv (s := S1x1x136x128) (s' := S136x128) (by decide)).surjective j
  have e1 : slotRead n ((slot n).view.write (Elt F) fd ((stageQ (nq n)).view.read (Elt F) fs) Finset.univ)
      (Shape.reshapeEquiv (s := S1x1x136x128) (s' := S136x128) (by decide) x)
      = (slot n).view.write (Elt F) fd ((stageQ (nq n)).view.read (Elt F) fs) Finset.univ ((slot n).view.emb x) := rfl
  rw [e1, View.write_emb_of_mem (v := (slot n).view) fd ((stageQ (nq n)).view.read (Elt F) fs) (Finset.mem_univ x)]
  have e2 : (stageQ (nq n)).view.read (Elt F) fs x
      = (mStage.access (rQ (nq n))).read (Elt F) fs (Shape.reshapeEquiv (s := S1x136x128) (s' := S136x128) (by decide) x) := rfl
  refine (show _ = (stageQ (nq n)).view.read (Elt F) fs x from rfl).trans ?_
  rw [e2, h]
  unfold toSlot shapeCast
  rw [Shape.reshapeEquiv_reshapeEquiv]

end Cert.Proof

end
-- ==== Proof.Protocol.lean ====
/- The agreement between the sixteen devices: which semaphore is raised by whom, what each raise
   hands over, and what every device owes the others at the start. -/
module

public import proofs.«01_k».proof.Proof.Contents
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UX : Type := URounds (GSem nD τ sig) (Fin 4)
abbrev UU : Type := UR sig nD τ × UX

local notation "𝕄" => MT nD τ sig Unit (Elt F) ℕ UU ℕ

abbrev EP : Emb (UR sig nD τ) (MT nD τ sig Unit (Elt F) ℕ UU ℕ) := embL
abbrev ER : Emb UX (MT nD τ sig Unit (Elt F) ℕ UU ℕ) := embR

/-! ## Neighbours and cells -/

theorem peer_peer (j : Fin 4) (c : Dev nD) : peer j (peer j c) = c := by
  revert j c; decide +kernel

theorem sendSem_val (n : Fin 16) : (sendSem n).val = 6 + n.val := by revert n; decide
theorem recvSem_val (n : Fin 16) : (recvSem n).val = 22 + n.val := by revert n; decide

/-- A device's cells: the barrier's, and each transfer's send and receive cell. -/
abbrev CI : Type := Unit ⊕ (Fin 16 ⊕ Fin 16)
abbrev osem : Fin 16 ⊕ Fin 16 → SemLoc sig
  | .inl n => .dma (sendSem n)
  | .inr n => .dma (recvSem n)
abbrev csem : CI → SemLoc sig
  | .inl _ => .reg barSem
  | .inr k => osem k
abbrev kcell (p : Dev nD × CI) : GSem nD τ sig := ((p.1 : Thread nD τ), csem p.2)
abbrev barCell (c : Dev nD) : GSem nD τ sig := ((c : Thread nD τ), .reg barSem)
abbrev sendCell (c : Dev nD) (n : Fin 16) : GSem nD τ sig := ((c : Thread nD τ), .dma (sendSem n))
abbrev recvCell (c : Dev nD) (n : Fin 16) : GSem nD τ sig := ((c : Thread nD τ), .dma (recvSem n))

/-- What one transfer adds to its semaphores. -/
abbrev N : ℕ := (slot 0).view.dmaCredit
theorem N_pos : 0 < N := View.dmaCredit_pos _ (by decide)
theorem slot_credit (n : Fin 16) : (slot n).view.dmaCredit = N := rfl
theorem stage_credit (q : Fin 4) : (stageQ q).view.dmaCredit = N := rfl

/-! ## What changes hands -/

def slotPts (c : Dev nD) (n : Fin 16) (f : Buf (Elt F) ((slot n).view.loc (c : Thread nD τ))) : sProp 𝕄 :=
  (slot n).view.loc (c : Thread nD τ) ↦[(slot n).view.set]{fullShare} f
def stagePts (c : Dev nD) (q : Fin 4) (f : Buf (Elt F) ((stageQ q).view.loc (c : Thread nD τ))) : sProp 𝕄 :=
  (stageQ q).view.loc (c : Thread nD τ) ↦[(stageQ q).view.set]{fullShare} f

instance slotPts_storable (c : Dev nD) (n : Fin 16) (f) : BI.Storable (upEmb : UEmb _ 𝕄) (slotPts (F := F) c n f) := by
  unfold slotPts; infer_instance
instance stagePts_storable (c : Dev nD) (q : Fin 4) (f) : BI.Storable (upEmb : UEmb _ 𝕄) (stagePts (F := F) c q f) := by
  unfold stagePts; infer_instance

/-! `A k c q` is quarter `q` of device `c`'s running sums after `k` rounds. -/

variable (A : ℕ → Dev nD → Fin 4 → Vec F S1x136x128 .f32)

/-- What arrives in slot `n` of device `c`. -/
def arriving (c : Dev nD) (n : Fin 16) : Vec F S1x1x136x128 .bf16 :=
  toSlot (rounded (A (nk n) (peer (axis n) c) (nq n)))

/-- Entering the barrier, the neighbour along axis `j` hands over its slots for that axis; -/
def barPay (c : Dev nD) (j : Fin 4) : sProp 𝕄 :=
  bigSep Finset.univ fun n : Fin 16 => if axis n = j then iprop(∃ f, slotPts (peer (axis n) c) n f) else iprop(emp)
/-- a transfer gives its sender the stage quarter back, -/
def sendPay (c : Dev nD) (q : Fin 4) : sProp 𝕄 := iprop(∃ f, stagePts c q f)
/-- and its receiver the slot, filled. -/
def recvPay (c : Dev nD) (n : Fin 16) : sProp 𝕄 :=
  iprop(∃ f : Buf (Elt F) ((slot n).view.loc (c : Thread nD τ)), ⌜slotRead n f = arriving A c n⌝ ∗ slotPts c n f)

instance barPay_storable (c : Dev nD) (j : Fin 4) : BI.Storable (upEmb : UEmb _ 𝕄) (barPay (F := F) c j) := by
  unfold barPay
  have (n : Fin 16) : BI.Storable (upEmb : UEmb _ 𝕄)
      (if axis n = j then iprop(∃ f, slotPts (F := F) (peer (axis n) c) n f) else iprop(emp)) := by
    split <;> infer_instance
  infer_instance
instance sendPay_storable (c : Dev nD) (q : Fin 4) : BI.Storable (upEmb : UEmb _ 𝕄) (sendPay (F := F) c q) := by
  unfold sendPay; infer_instance
instance recvPay_storable (c : Dev nD) (n : Fin 16) : BI.Storable (upEmb : UEmb _ 𝕄) (recvPay A c n) := by
  unfold recvPay; infer_instance

/-! ## The schedule -/

/-- Who pays what into cell `g`: the four neighbours one unit each at the barrier, and one transfer at every other. -/
def dutiesOf (s : SemLoc sig) : Finset (Fin 4) :=
  match s with
  | .reg s => if s = barSem then Finset.univ else ∅
  | .dma s => if 6 ≤ s.val then {0} else ∅
def amountOf (s : SemLoc sig) : ℕ :=
  match s with
  | .reg _ => 1
  | .dma _ => N
def payOf (c : Dev nD) (s : SemLoc sig) (d : Fin 4) : sProp 𝕄 :=
  match s with
  | .reg _ => barPay c d
  | .dma s => if h : 22 ≤ s.val ∧ s.val < 38 then recvPay A c ⟨s.val - 22, by omega⟩
      else sendPay c ⟨(s.val - 6) % 4, Nat.mod_lt _ (by decide)⟩

def sched : Rounds.Schedule (GSem nD τ sig) (Fin 4) 𝕄 where
  duties g r := if r = 0 ∧ g.1.2 = .tc then dutiesOf g.2 else ∅
  amount g _ _ := amountOf g.2
  payload g _ d := payOf A g.1.1 g.2 d
  amount_pos g _ _ _ := by
    rcases g with ⟨_, s⟩
    cases s
    · exact Nat.one_pos
    · exact N_pos

instance sched_storable (g : GSem nD τ sig) (r : ℕ) (d : Fin 4) :
    BI.Storable (upEmb : UEmb _ 𝕄) ((sched A).payload g r d) := by
  show BI.Storable upEmb (payOf A g.1.1 g.2 d)
  rcases g with ⟨c, s⟩
  cases s
  · show BI.Storable upEmb (barPay c.1 d); infer_instance
  · show BI.Storable upEmb (dite _ _ _)
    split <;> infer_instance

section Sched
variable (c : Dev nD) (n : Fin 16)

theorem duties_tc (sm : SemLoc sig) : (sched A).duties ((c : Thread nD τ), sm) 0 = dutiesOf sm := by
  dsimp only [sched]; exact if_pos ⟨rfl, rfl⟩
theorem duties_bar : (sched A).duties (barCell c) 0 = Finset.univ := by
  rw [duties_tc]; dsimp only [dutiesOf]; exact if_pos rfl
theorem duties_send : (sched A).duties (sendCell c n) 0 = {0} := by
  rw [duties_tc]; dsimp only [dutiesOf]; exact if_pos (by rw [sendSem_val]; omega)
theorem duties_recv : (sched A).duties (recvCell c n) 0 = {0} := by
  rw [duties_tc]; dsimp only [dutiesOf]; exact if_pos (by rw [recvSem_val]; omega)
theorem duties_later (g : GSem nD τ sig) : ∀ r, 1 ≤ r → (sched A).duties g r = ∅ :=
  fun r hr => if_neg fun h => by omega

theorem expect_bar : (sched A).expect (barCell c) 0 = 4 := by
  unfold Schedule.expect Schedule.amountOf
  rw [duties_bar, Finset.sum_congr rfl fun d _ => show (sched A).amount (barCell c) 0 d = 1 from rfl]
  rfl
theorem expect_send : (sched A).expect (sendCell c n) 0 = N := by
  unfold Schedule.expect Schedule.amountOf; rw [duties_send, Finset.sum_singleton]; rfl
theorem expect_recv : (sched A).expect (recvCell c n) 0 = N := by
  unfold Schedule.expect Schedule.amountOf; rw [duties_recv, Finset.sum_singleton]; rfl

theorem payload_bar (j : Fin 4) : (sched A).payload (barCell c) 0 j = barPay c j := rfl
theorem payload_send (d : Fin 4) : (sched A).payload (sendCell c n) 0 d = sendPay c (nq n) := by
  show payOf A c (.dma (sendSem n)) d = _
  unfold payOf; dsimp only
  rw [dif_neg (by rw [sendSem_val]; omega)]
  congr 1
  apply Fin.ext
  show ((sendSem n).val - 6) % 4 = n.val % 4
  rw [sendSem_val]; omega
theorem payload_recv (d : Fin 4) : (sched A).payload (recvCell c n) 0 d = recvPay A c n := by
  show payOf A c (.dma (recvSem n)) d = _
  unfold payOf; dsimp only
  rw [dif_pos (by rw [recvSem_val]; omega)]
  congr 1
  apply Fin.ext
  show (recvSem n).val - 22 = n.val
  rw [recvSem_val]; omega

theorem rest_bar : bigSep ((sched A).duties (barCell c) 0 \ ∅) (fun d => (sched A).payload (barCell c) 0 d)
    = bigSep Finset.univ fun j : Fin 4 => barPay (F := F) c j := by
  rw [Finset.sdiff_empty, duties_bar]; rfl
theorem rest_send : bigSep ((sched A).duties (sendCell c n) 0 \ ∅) (fun d => (sched A).payload (sendCell c n) 0 d)
    = sendPay c (nq n) := by
  rw [Finset.sdiff_empty, duties_send, bigSep_singleton, payload_send]
theorem rest_recv : bigSep ((sched A).duties (recvCell c n) 0 \ ∅) (fun d => (sched A).payload (recvCell c n) 0 d)
    = recvPay A c n := by
  rw [Finset.sdiff_empty, duties_recv, bigSep_singleton, payload_recv]

end Sched

/-! ## Slots given and received at the barrier -/

/-- A family sorted by a label. -/
theorem bigSep_sorted {I J : Type} [Fintype I] [Fintype J] [DecidableEq I] [DecidableEq J] (f : I → J) (Φ : I → sProp 𝕄) :
    bigSep Finset.univ Φ
      = bigSep Finset.univ fun j : J => bigSep Finset.univ fun i : I => if f i = j then Φ i else iprop(emp) := by
  rw [bigSep_univ_comm]
  refine bigSep_congr fun i _ => ?_
  have e := bigSep_filter Finset.univ (fun j => f i = j) (fun _ => Φ i)
  rw [Finset.filter_eq, if_pos (Finset.mem_univ _), bigSep_singleton] at e
  exact e

/-- A device's slots, sorted by the axis they serve. -/
theorem slots_out (c : Dev nD) :
    (bigSep Finset.univ fun n : Fin 16 => iprop(∃ f, slotPts (F := F) c n f))
      = bigSep Finset.univ fun j : Fin 4 => barPay (F := F) (peer j c) j := by
  rw [bigSep_sorted axis]
  refine bigSep_congr fun j _ => ?_
  unfold barPay
  refine bigSep_congr fun n _ => ?_
  by_cases h : axis n = j
  · rw [if_pos h, if_pos h, h, peer_peer]
  · rw [if_neg h, if_neg h]
/-- What the four neighbours hand over is one slot for every transfer. -/
theorem slots_in (c : Dev nD) :
    (bigSep Finset.univ fun j : Fin 4 => barPay (F := F) c j)
      = bigSep Finset.univ fun n : Fin 16 => iprop(∃ f, slotPts (F := F) (peer (axis n) c) n f) := by
  rw [bigSep_sorted axis]
  rfl

/-! ## What is owed, and the levels -/

/-- What device `c` still owes when it has issued the transfers before `s`. -/
def owedFrom (c : Dev nD) (s : ℕ) : CellTallies nD τ sig Unit :=
  ∑ i ∈ Finset.univ.filter (fun i : Fin 16 => s ≤ i.val), tallyAt (recvCell (peer (axis i) c) i) () N
def barOwed (c : Dev nD) (j : Fin 4) : CellTallies nD τ sig Unit := tallyAt (barCell (peer j c)) () 1
def O₃ (c : Dev nD) : CellTallies nD τ sig Unit := owedFrom c 0 + barOwed c 3
def O₂ (c : Dev nD) : CellTallies nD τ sig Unit := O₃ c + barOwed c 2
def O₁ (c : Dev nD) : CellTallies nD τ sig Unit := O₂ c + barOwed c 1
def O₀ (c : Dev nD) : CellTallies nD τ sig Unit := O₁ c + barOwed c 0

theorem owedFrom_peel (c : Dev nD) (i : Fin 16) :
    owedFrom c i.val = owedFrom c (i.val + 1) + tallyAt (recvCell (peer (axis i) c) i) () N := by
  unfold owedFrom
  have : Finset.univ.filter (fun k : Fin 16 => i.val ≤ k.val)
      = insert i (Finset.univ.filter (fun k : Fin 16 => i.val + 1 ≤ k.val)) := by
    ext k
    simp only [Finset.mem_filter, Finset.mem_univ, true_and, Finset.mem_insert, Fin.ext_iff]
    omega
  rw [this, Finset.sum_insert (by simp), add_comm]
theorem owedFrom_end (c : Dev nD) : owedFrom c 16 = 0 := by
  unfold owedFrom
  rw [Finset.filter_false_of_mem (fun i _ => by omega), Finset.sum_empty]

def L (g : GSem nD τ sig) : Finset Unit := if g.1.2 = .tc then {()} else ∅
theorem L_of_ne (g : GSem nD τ sig) (h : g.1.2 ≠ .tc) : L g = ∅ := if_neg h
theorem L_tc (c : Dev nD) (sm : SemLoc sig) : L ((c : Thread nD τ), sm) = {()} := if_pos rfl
/-- The barrier lies below every transfer's arrival, and the transfers lie in their order. -/
def lev (s : SemLoc sig) : ℕ :=
  match s with
  | .reg _ => 1
  | .dma s => if 22 ≤ s.val then s.val - 20 else 0
def lv (g : GSem nD τ sig) (_ : Unit) : ℕ := lev g.2

theorem lev_send (n : Fin 16) : lev (.dma (sendSem n)) = 0 := by
  unfold lev; dsimp only; rw [if_neg (by rw [sendSem_val]; omega)]
theorem lev_recv (n : Fin 16) : lev (.dma (recvSem n)) = n.val + 2 := by
  unfold lev; dsimp only; rw [if_pos (by rw [recvSem_val]; omega), recvSem_val]; omega

theorem sum_pos {ι : Type} (S : Finset ι) (t : ι → CellTallies nD τ sig Unit) (g : GSem nD τ sig) (u : Unit)
    (h : 0 < (∑ i ∈ S, t i) g u) : ∃ i ∈ S, 0 < t i g u := by
  by_contra hn
  have hz : ∀ i ∈ S, t i g u = 0 := fun i hi => by
    by_contra h0; exact hn ⟨i, hi, Nat.pos_of_ne_zero h0⟩
  have : (∑ i ∈ S, t i) g u = ∑ i ∈ S, t i g u := by
    rw [Finset.sum_apply, Finsupp.finset_sum_apply]
  rw [this, Finset.sum_eq_zero hz] at h
  exact Nat.lt_irrefl 0 h

theorem tally_pos {g g' : GSem nD τ sig} {k : ℕ} {u : Unit} (h : 0 < (tallyAt g' () k : CellTallies nD τ sig Unit) g u) : g = g' := by
  rw [tallyAt_apply] at h
  by_contra hn
  rw [if_neg (fun h' => hn h'.1)] at h
  exact Nat.lt_irrefl 0 h

theorem owedFrom_pos {c : Dev nD} {s : ℕ} {g : GSem nD τ sig} {u : Unit} (h : 0 < owedFrom c s g u) :
    ∃ i : Fin 16, s ≤ i.val ∧ g = recvCell (peer (axis i) c) i := by
  obtain ⟨i, hi, h'⟩ := sum_pos _ _ g u h
  exact ⟨i, (Finset.mem_filter.mp hi).2, tally_pos h'⟩

theorem O₀_pos {c : Dev nD} {g : GSem nD τ sig} {u : Unit} (h : 0 < O₀ c g u) :
    (∃ i : Fin 16, g = recvCell (peer (axis i) c) i) ∨ ∃ d, g = barCell d := by
  unfold O₀ O₁ O₂ O₃ at h
  simp only [Pi.add_apply, Finsupp.add_apply] at h
  by_cases h0 : 0 < owedFrom c 0 g u
  · obtain ⟨i, _, e⟩ := owedFrom_pos h0; exact .inl ⟨i, e⟩
  · right
    by_contra hn
    have hb (j : Fin 4) : barOwed c j g u = 0 := by
      by_contra h1
      exact hn ⟨_, tally_pos (Nat.pos_of_ne_zero h1)⟩
    rw [hb, hb, hb, hb] at h
    omega

/-- Waiting on semaphore `s` is allowed to a device that owes only arrivals of later transfers. -/
theorem mayWait_from (c : Dev nD) (sm : SemLoc sig) (s : ℕ) (h : lev sm < s + 2) :
    (levAts L lv : sProp 𝕄) ⊢ MayWait (c : Thread nD τ) sm () (owedFrom c s) :=
  MayOwe.of_cut (L := L) (lev := lv) (lev sm)
    (fun p hp => by rw [Finset.mem_singleton.mp hp, L_tc]; exact Finset.mem_singleton_self _)
    (fun g u hg => by obtain ⟨i, _, rfl⟩ := owedFrom_pos hg; exact Finset.mem_singleton_self _)
    (fun p hp => by rw [Finset.mem_singleton.mp hp]; exact le_rfl)
    (fun g u hg => by
      obtain ⟨i, hi, rfl⟩ := owedFrom_pos hg
      show lev sm < lev (.dma (recvSem i))
      rw [lev_recv]; omega)

/-- Waiting on a staging semaphore is allowed at the start and at the end. -/
theorem mayWait_stage (c : Dev nD) (q : DmaSem sig) (hq : lev (.dma q) = 0) (O : CellTallies nD τ sig Unit)
    (hO : O = O₀ c ∨ O = 0) : (levAts L lv : sProp 𝕄) ⊢ MayWait (c : Thread nD τ) (.dma q) () O := by
  rcases hO with rfl | rfl
  · refine MayOwe.of_cut (L := L) (lev := lv) 0
      (fun p hp => by rw [Finset.mem_singleton.mp hp, L_tc]; exact Finset.mem_singleton_self _)
      (fun g u hg => by rcases O₀_pos hg with ⟨i, rfl⟩ | ⟨d, rfl⟩ <;> exact Finset.mem_singleton_self _)
      (fun p hp => by rw [Finset.mem_singleton.mp hp]; exact le_of_eq hq)
      (fun g u hg => by
        rcases O₀_pos hg with ⟨i, rfl⟩ | ⟨d, rfl⟩
        · show 0 < lev (.dma (recvSem i)); rw [lev_recv]; omega
        · exact Nat.one_pos)
  · rw [MayWait_zero]; iintro -; iempintro

end Cert.Proof

end
-- ==== Proof.Steps.lean ====
/- Each piece of the kernel, from what it needs to what it leaves. -/
module

public import proofs.«01_k».proof.Proof.Protocol

@[expose] public section

noncomputable section

namespace Cert.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- The piece `p` on device `c` ends with what `Q` asks. -/
abbrev runs (c : Dev nD) {α : Type} (p : KProg F α) (Q : α → sProp 𝕄) : sProp 𝕄 :=
  wp frame (wpE (defs₀ (F := F)) 𝒱₀ (c : Thread nD τ) none) Set.univ p Q

/-- Device `c`'s accumulator holds the quarters `T`. -/
def AccIs (c : Dev nD) (T : Fin 4 → Vec F S1x136x128 .f32) : sProp 𝕄 :=
  iprop(∃ f : Buf (Elt F) ((c : Thread nD τ).loc cc0_scratch0), ⌜(fun q => accRead q f) = T⌝
    ∗ (((c : Thread nD τ).loc cc0_scratch0) ↦{fullShare} f))

/-- Device `c`'s buffer `b` holds `X`. -/
def Holds (c : Dev nD) (b : Ref sig .tc) (X : b.ty.Contents (Elt F)) : sProp 𝕄 :=
  iprop(((c : Thread nD τ).loc b) ↦{fullShare} X)

theorem zeroRows_spec (c : Dev nD) (b : Fin 2) (T : Fin 4 → Vec F S1x136x128 .f32) (Q : PUnit → sProp 𝕄) :
    AccIs c T ⊢ iprop((AccIs c (fun q => if qb q = b.val then cleared (T q) else T q) -∗ Q ⟨⟩) -∗ runs c (zeroRows b) Q) := by
  unfold AccIs zeroRows runs
  simp only [Prog.lift, Prog.bind_op, Prog.bind_ret, Prog.pure_eq_ret]
  iintro ⟨%f, %hf, Hacc⟩ Hk
  iapply (wp_load_rect 𝒱₀ (c : Thread nD τ) none Set.univ (m := mAcc) (r := rZero b) (Finset.subset_univ _)) $$ Hacc
  iintro Hacc
  iapply (wp_store 𝒱₀ (c : Thread nD τ) none Set.univ (m := mAcc) (r := rZero b) (Mk := Finset.univ) (Finset.subset_univ _)) $$ Hacc
  iintro Hacc
  rw [wp_ret]; imodintro
  iapply Hk
  iexists _
  isplitr
  rotate_left
  · iexact Hacc
  · ipureintro
    subst hf
    funext q
    exact accRead_zero b f q

theorem head_spec (c : Dev nD) (mask : IVec S128x128 1) (qv : FVec F S128x256 .f32) (b : Fin 2) (h : Fin 4)
    (T : Fin 4 → Vec F S1x136x128 .f32) (Xk : (cc0_stg2_0 : Ref sig .tc).ty.Contents (Elt F))
    (Xv : (cc0_stg3_0 : Ref sig .tc).ty.Contents (Elt F)) (Q : PUnit → sProp 𝕄) :
    iprop(AccIs c T ∗ Holds c cc0_stg2_0 Xk ∗ Holds c cc0_stg3_0 Xv)
      ⊢ iprop(((AccIs c (Function.update T (quarterOf b h) (withHead h
            (headOut (weights mask qv h ((mK.access (rKV b h)).read (Elt F) Xk)) ((mV.access (rKV b h)).read (Elt F) Xv))
            (headSum (weights mask qv h ((mK.access (rKV b h)).read (Elt F) Xk))) (T (quarterOf b h))))
          ∗ Holds c cc0_stg2_0 Xk ∗ Holds c cc0_stg3_0 Xv) -∗ Q ⟨⟩) -∗ runs c (head mask qv b h) Q) := by
  unfold AccIs Holds head runs
  simp only [Prog.lift, Prog.bind_op, Prog.bind_ret, Prog.pure_eq_ret]
  iintro ⟨⟨%f, %hf, Hacc⟩, Hxk, Hxv⟩ Hk
  iapply (wp_load_rect 𝒱₀ (c : Thread nD τ) none Set.univ (m := mK) (r := rKV b h) (Finset.subset_univ _)) $$ Hxk
  iintro Hxk
  iapply (wp_load_rect 𝒱₀ (c : Thread nD τ) none Set.univ (m := mV) (r := rKV b h) (Finset.subset_univ _)) $$ Hxv
  iintro Hxv
  iapply (wp_load_rect 𝒱₀ (c : Thread nD τ) none Set.univ (m := mAcc) (r := rCols b h) (Finset.subset_univ _)) $$ Hacc
  iintro Hacc
  iapply (wp_store 𝒱₀ (c : Thread nD τ) none Set.univ (m := mAcc) (r := rCols b h) (Mk := Finset.univ) (Finset.subset_univ _)) $$ Hacc
  iintro Hacc
  iapply (wp_load_rect 𝒱₀ (c : Thread nD τ) none Set.univ (m := mAcc) (r := rRow b h) (Finset.subset_univ _)) $$ Hacc
  iintro Hacc
  iapply (wp_store 𝒱₀ (c : Thread nD τ) none Set.univ (m := mAcc) (r := rRow b h) (Mk := Finset.univ) (Finset.subset_univ _)) $$ Hacc
  iintro Hacc
  rw [wp_ret]; imodintro
  iapply Hk
  isplitl [Hacc]
  · iexists _
    isplitr
    rotate_left
    · iexact Hacc
    · ipureintro
      subst hf
      funext q
      exact accRead_head b h f _ _ q
  isplitl [Hxk] <;> iassumption

theorem loadQueries_spec (c : Dev nD) (b : Fin 2) (Xx : (cc0_stg0_0 : Ref sig .tc).ty.Contents (Elt F))
    (Xw : (cc0_stg1_0 : Ref sig .tc).ty.Contents (Elt F)) (Q : FVec F S128x256 .f32 → sProp 𝕄) :
    iprop(Holds c cc0_stg0_0 Xx ∗ Holds c cc0_stg1_0 Xw)
      ⊢ iprop(((Holds c cc0_stg0_0 Xx ∗ Holds c cc0_stg1_0 Xw)
          -∗ Q (queries ((mx.access (rX b)).read (Elt F) Xx) ((mWq.access rWq).read (Elt F) Xw)))
        -∗ runs c (loadQueries b) Q) := by
  unfold Holds loadQueries runs
  simp only [Prog.lift, Prog.bind_op, Prog.bind_ret, Prog.pure_eq_ret]
  iintro ⟨Hx, Hw⟩ Hk
  iapply (wp_load_rect 𝒱₀ (c : Thread nD τ) none Set.univ (m := mx) (r := rX b) (Finset.subset_univ _)) $$ Hx
  iintro Hx
  iapply (wp_load_rect 𝒱₀ (c : Thread nD τ) none Set.univ (m := mWq) (r := rWq) (Finset.subset_univ _)) $$ Hw
  iintro Hw
  rw [wp_ret]; imodintro
  iapply Hk
  isplitl [Hx] <;> iassumption

theorem project_spec (c : Dev nD) (q : Fin 4) (T : Fin 4 → Vec F S1x136x128 .f32)
    (Xo : (cc0_stg4_0 : Ref sig .tc).ty.Contents (Elt F)) (Q : FVec F S128x512 .f32 → sProp 𝕄) :
    iprop(AccIs c T ∗ Holds c cc0_stg4_0 Xo)
      ⊢ iprop(((AccIs c T ∗ Holds c cc0_stg4_0 Xo)
          -∗ Q (halfProj (tileSums (T q)) (tileCtx (T q)) ((mWo.access (rWo q)).read (Elt F) Xo)))
        -∗ runs c (project q) Q) := by
  unfold AccIs Holds project runs
  simp only [Prog.lift, Prog.bind_op, Prog.bind_ret, Prog.pure_eq_ret]
  iintro ⟨⟨%f, %hf, Hacc⟩, Hxo⟩ Hk
  iapply (wp_load_rect 𝒱₀ (c : Thread nD τ) none Set.univ (m := mAcc) (r := rPair q) (Finset.subset_univ _)) $$ Hacc
  iintro Hacc
  iapply (wp_load_rect 𝒱₀ (c : Thread nD τ) none Set.univ (m := mAcc) (r := rCtx q) (Finset.subset_univ _)) $$ Hacc
  iintro Hacc
  iapply (wp_load_rect 𝒱₀ (c : Thread nD τ) none Set.univ (m := mWo) (r := rWo q) (Finset.subset_univ _)) $$ Hxo
  iintro Hxo
  rw [wp_ret]; imodintro
  subst hf
  rw [read_ctx, read_sums]
  iapply Hk
  isplitl [Hacc]
  · iexists f
    isplitr
    · ipureintro; rfl
    · iexact Hacc
  iexact Hxo

theorem storeOut_spec (c : Dev nD) (b : Fin 2) (o : FVec F S1x128x512 .f32) (X : (cc0_stg5_0 : Ref sig .tc).ty.Contents (Elt F))
    (Q : PUnit → sProp 𝕄) :
    Holds c cc0_stg5_0 X
      ⊢ iprop((Holds c cc0_stg5_0 ((mOut.access (rX b)).write (Elt F) X o Finset.univ) -∗ Q ⟨⟩) -∗ runs c (storeOut b o) Q) := by
  unfold Holds storeOut runs
  simp only [Prog.lift, Prog.bind_op, Prog.bind_ret, Prog.pure_eq_ret]
  iintro Hx Hk
  iapply (wp_load_rect 𝒱₀ (c : Thread nD τ) none Set.univ (m := mOut) (r := rX b) (Finset.subset_univ _)) $$ Hx
  iintro Hx
  iapply (wp_store 𝒱₀ (c : Thread nD τ) none Set.univ (m := mOut) (r := rX b) (Mk := Finset.univ) (Finset.subset_univ _)) $$ Hx
  iintro Hx
  rw [wp_ret]; imodintro
  iapply Hk
  iexact Hx

end Cert.Proof

end
-- ==== Proof.Transfers.lean ====
/- The barrier, the sends and the receipts, from what each needs to what it leaves. -/
module

public import proofs.«01_k».proof.Proof.Steps

@[expose] public section

noncomputable section

namespace Cert.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (A : ℕ → Dev nD → Fin 4 → Vec F S1x136x128 .f32)

/-! ## What every device knows -/

def records (K : Dev nD × CI → ℕ) : sProp 𝕄 :=
  iprop((bigSep Finset.univ fun p : Dev nD × CI => cellInv ER (sched A) (K p) (kcell p))
    ∗ bigSep Finset.univ fun p : Dev nD × CI => reached ER (kcell p) 0)

instance records_persistent (K : Dev nD × CI → ℕ) : BI.Persistent (records A K) := by unfold records; infer_instance

variable (K : Dev nD × CI → ℕ)

theorem inv_at (p : Dev nD × CI) :
    (bigSep Finset.univ fun p : Dev nD × CI => (cellInv ER (sched A) (K p) (kcell p) : sProp 𝕄)) ⊢ cellInv ER (sched A) (K p) (kcell p) :=
  bigSep_elim (Finset.mem_univ p)
theorem reached_at (p : Dev nD × CI) :
    (bigSep Finset.univ fun p : Dev nD × CI => (reached ER (kcell p) 0 : sProp 𝕄)) ⊢ reached ER (kcell p) 0 :=
  bigSep_elim (Finset.mem_univ p)
theorem inv_of (p : Dev nD × CI) : records A K ⊢ cellInv ER (sched A) (K p) (kcell p) := by
  unfold records
  iintro ⟨H, -⟩
  iapply (inv_at A K p); iexact H
theorem reached_of (p : Dev nD × CI) : records A K ⊢ reached ER (kcell p) 0 := by
  unfold records
  iintro ⟨-, H⟩
  iapply (reached_at p); iexact H

/-! ## The state of the transfers -/

/-- Both ends of transfer `i` at device `c`, before anything has arrived. -/
def ends (c : Dev nD) (i : Fin 16) : sProp 𝕄 :=
  iprop(atPos ER (sendCell c i) 0 ∅ 0 ∗ atPos ER (recvCell c i) 0 ∅ 0 ∗ cred (tallyAt (recvCell c i) () N))
/-- The right to issue transfer `i`. -/
def issue (c : Dev nD) (i : Fin 16) : sProp 𝕄 :=
  iprop(dutyTok ER (sendCell c i) 0 0 ∗ dutyTok ER (recvCell (peer (axis i) c) i) 0 0)
/-- Transfer `i` not issued yet; issued; awaited. -/
def ready (c : Dev nD) (i : Fin 16) : sProp 𝕄 :=
  iprop(issue c i ∗ (∃ f, slotPts (F := F) (peer (axis i) c) i f) ∗ ends c i)
def flying (c : Dev nD) (i : Fin 16) : sProp 𝕄 := iprop(cred (tallyAt (sendCell c i) () N) ∗ ends c i)
def landed (c : Dev nD) (i : Fin 16) : sProp 𝕄 :=
  iprop(semVal (sendCell c i) 0 ∗ semVal (recvCell c i) 0 ∗ ∃ f, slotPts (F := F) c i f)

/-- Transfer `i` when `s` transfers are issued and `d` awaited. -/
def phase (c : Dev nD) (s d : ℕ) (i : Fin 16) : sProp 𝕄 :=
  if i.val < d then landed c i else if i.val < s then flying c i else ready c i
/-- Stage quarter `q` then: its sender's, unless a transfer is reading it. -/
def stageAt (c : Dev nD) (s d : ℕ) (q : Fin 4) : sProp 𝕄 :=
  if (q.val + 4 - d % 4) % 4 < s - d then iprop(emp) else iprop(∃ f, stagePts (F := F) c q f)

/-- Device `c` when `s` transfers are issued and `d` awaited. -/
def At (c : Dev nD) (s d : ℕ) : sProp 𝕄 :=
  iprop((bigSep Finset.univ fun i : Fin 16 => phase (F := F) c s d i) ∗ (bigSep Finset.univ fun q : Fin 4 => stageAt (F := F) c s d q)
    ∗ ∃ W, owes (c : Thread nD τ) (owedFrom c s) W)

theorem phase_move (c : Dev nD) (s d s' d' : ℕ) (n : Fin 16)
    (h : ∀ i : Fin 16, i ≠ n → ((i.val < d ↔ i.val < d') ∧ (i.val < s ↔ i.val < s'))) :
    (bigSep (Finset.univ.erase n) fun i : Fin 16 => phase (F := F) c s d i)
      = bigSep (Finset.univ.erase n) fun i : Fin 16 => phase (F := F) c s' d' i := by
  refine bigSep_congr fun i hi => ?_
  obtain ⟨h1, h2⟩ := h i (Finset.ne_of_mem_erase hi)
  unfold phase
  simp only [h1, h2]
theorem stage_move (c : Dev nD) (s d s' d' : ℕ) (q : Fin 4)
    (h : ∀ p : Fin 4, p ≠ q → ((p.val + 4 - d % 4) % 4 < s - d ↔ (p.val + 4 - d' % 4) % 4 < s' - d')) :
    (bigSep (Finset.univ.erase q) fun p : Fin 4 => stageAt (F := F) c s d p)
      = bigSep (Finset.univ.erase q) fun p : Fin 4 => stageAt (F := F) c s' d' p := by
  refine bigSep_congr fun p hp => ?_
  unfold stageAt
  simp only [h p (Finset.ne_of_mem_erase hp)]

theorem stage_set (q : Fin 4) : (stageQ q).view.set = (mStage.access (rQ q)).set := View.set_reshape _ _
theorem slot_set (n : Fin 16) : (slot n).view.set = (mComm.access (rComm n)).set := View.set_reshape _ _

theorem read_stage_store (q : Fin 4) (f : mStage.view.ty.Contents (Elt F)) (w : Vec F S1x136x128 .bf16) :
    (mStage.access (rQ q)).read (Elt F) ((mStage.access (rQ q)).write (Elt F) f w Finset.univ) = w :=
  View.read_write_univ _ _

/-! ## Sending -/

/-- A store to a stage quarter leaves the quarter's elements so written. -/
theorem stage_written (c : Dev nD) (q : Fin 4) (f : Buf (Elt F) ((stageQ q).view.loc (c : Thread nD τ))) :
    ((mStage.access (rQ q)).loc (c : Thread nD τ) ↦[(stageQ q).view.set]{fullShare} f) ⊢ (stagePts c q f : sProp 𝕄) :=
  BI.Entails.refl _

/-- Transfer `n` issued: its stage quarter and the neighbour's slot go with it. -/
theorem send_spec (c : Dev nD) (n : Fin 16) (fs : Buf (Elt F) ((stageQ (nq n)).view.loc (c : Thread nD τ)))
    (fd : Buf (Elt F) ((slot n).view.loc (peer (axis n) c : Thread nD τ))) (W : Waits sig Unit)
    (hfs : (mStage.access (rQ (nq n))).read (Elt F) fs = rounded (A (nk n) c (nq n)))
    {hsc : (slot n : Memref sig (Dev.tc (peer (axis n) c) : Thread nD τ).2.kind .vmem S136x128 .bf16).view.ref.isScScratch = false}
    {hsrc : (stageQ (nq n)).view.WordExact} {hdst : (slot n).view.WordExact}
    {hsem : DmaTarget.Typed .vmem (.dma (recvSem n)) (.remote (Dev.tc (peer (axis n) c) : Thread nD τ)
      (slot n : Memref sig .tc .vmem S136x128 .bf16) (.dma (sendSem n)) hsc)}
    {α : Type} {Q : α → sProp 𝕄} {k : PUnit → Prog (TpuEff nD τ sig (Elt F) Λ₀ .tc) α} :
    iprop(records A K ∗ stagePts c (nq n) fs ∗ slotPts (peer (axis n) c) n fd ∗ owes (c : Thread nD τ) (owedFrom c n.val) W ∗ issue c n)
      ⊢ iprop(((cred (tallyAt (sendCell c n) () N) ∗ owes (c : Thread nD τ) (owedFrom c (n.val + 1)) W)
          -∗ wp frame (wpE (defs₀ (F := F)) 𝒱₀ (c : Thread nD τ) none) Set.univ (k ⟨⟩) Q)
        -∗ wp frame (wpE (defs₀ (F := F)) 𝒱₀ (c : Thread nD τ) none) Set.univ
            (.op (.enqueueDma (stageQ (nq n)) (.remote (Dev.tc (peer (axis n) c) : Thread nD τ) (slot n) (.dma (sendSem n)) hsc)
              (.dma (recvSem n)) hsrc hdst hsem) k) Q) := by
  unfold issue
  iintro ⟨#HR, Hst, Hdst, HO, HtS, HtR⟩
  unfold stagePts slotPts
  iapply (Rounds.wp_send_pointsTo 𝒱₀ ER (sched A) (c : Thread nD τ) none (c' := (peer (axis n) c : Thread nD τ))
    (κ₁ := K (c, .inr (.inl n))) (κ₂ := K (peer (axis n) c, .inr (.inr n)))
    (r₁ := 0) (r₂ := 0) (d₁ := 0) (d₂ := 0) (fs := fs) (fd := fd)
    (by rw [duties_send]; exact Finset.mem_singleton_self _) (by rw [duties_recv]; exact Finset.mem_singleton_self _)
    () () N rfl rfl rfl (owedFrom c (n.val + 1)) (owedFrom_peel c n) (W := W)
    (by
      rw [payload_send]; unfold sendPay stagePts
      iintro H; iexists fs; iexact H)
    (by
      rw [payload_recv]; unfold recvPay slotPts
      iintro H
      iexists ((slot n).view.write (Elt F) fd ((stageQ (nq n)).view.read (Elt F) fs) Finset.univ)
      isplitr
      · ipureintro
        unfold arriving
        rw [peer_peer]
        exact slotRead_filled n fd fs _ hfs
      · iexact H)) $$ [Hst Hdst HO HtS HtR]
  isplitr; · iapply (inv_of A K (c, .inr (.inl n))); iexact HR
  isplitr; · iapply (inv_of A K (peer (axis n) c, .inr (.inr n))); iexact HR
  isplitl [Hst]; · iexact Hst
  isplitl [Hdst]; · iexact Hdst
  isplitl [HO]; · iexact HO
  isplitl [HtS]; · iexact HtS
  isplitr; · iapply (reached_of A K (c, .inr (.inl n))); iexact HR
  isplitl [HtR]; · iexact HtR
  iapply (reached_of A K (peer (axis n) c, .inr (.inr n))); iexact HR

theorem exchange_spec (c : Dev nD) (n : Fin 16) (d : ℕ) (hd : d ≤ n.val) (hn : n.val < d + 4)
    (T : Fin 4 → Vec F S1x136x128 .f32) (hT : T (nq n) = A (nk n) c (nq n)) (Q : PUnit → sProp 𝕄) :
    iprop(records A K ∗ At c n.val d ∗ AccIs c T)
      ⊢ iprop(((At c (n.val + 1) d ∗ AccIs c T) -∗ Q ⟨⟩) -∗ runs c (exchange c n) Q) := by
  unfold At AccIs exchange runs
  simp only [Prog.lift, Prog.bind_op, Prog.bind_ret, Prog.pure_eq_ret]
  rw [bigSep_univ_at (fun i : Fin 16 => phase (F := F) c n.val d i) n,
    bigSep_univ_at (fun i : Fin 16 => phase (F := F) c (n.val + 1) d i) n,
    bigSep_univ_at (fun q : Fin 4 => stageAt (F := F) c n.val d q) (nq n),
    bigSep_univ_at (fun q : Fin 4 => stageAt (F := F) c (n.val + 1) d q) (nq n),
    phase_move c n.val d (n.val + 1) d n (fun i hi => ⟨Iff.rfl, by
      have : i.val ≠ n.val := fun e => hi (Fin.ext e)
      omega⟩),
    stage_move c n.val d (n.val + 1) d (nq n) (fun p hp => by
      have h1 : p.val ≠ n.val % 4 := fun e => hp (Fin.ext e)
      have := p.isLt
      omega)]
  rw [show phase (F := F) c n.val d n = ready c n from by
      unfold phase; rw [if_neg (by omega), if_neg (by omega)],
    show phase (F := F) c (n.val + 1) d n = flying c n from by
      unfold phase; rw [if_neg (by omega), if_pos (by omega)],
    show stageAt (F := F) c n.val d (nq n) = iprop(∃ f, stagePts (F := F) c (nq n) f) from by
      unfold stageAt; rw [if_neg]; show ¬ (n.val % 4 + 4 - d % 4) % 4 < n.val - d; omega,
    show stageAt (F := F) c (n.val + 1) d (nq n) = iprop(emp) from by
      unfold stageAt; rw [if_pos]; show (n.val % 4 + 4 - d % 4) % 4 < n.val + 1 - d; omega]
  unfold ready flying
  iintro ⟨#HR, ⟨⟨⟨Hiss, ⟨%fd, Hdst⟩, Hends⟩, Hph⟩, ⟨⟨%fs, Hst⟩, Hstr⟩, ⟨%W, HO⟩⟩, ⟨%f, %hf, Hacc⟩⟩ Hk
  iapply (wp_load_rect 𝒱₀ (c : Thread nD τ) none Set.univ (m := mAcc) (r := rQ (nq n)) (Finset.subset_univ _)) $$ Hacc
  iintro Hacc
  unfold stagePts
  iapply (wp_load_rect 𝒱₀ (c : Thread nD τ) none Set.univ (m := mStage) (r := rQ (nq n)) (by rw [stage_set])) $$ Hst
  iintro Hst
  iapply (wp_store 𝒱₀ (c : Thread nD τ) none Set.univ (m := mStage) (r := rQ (nq n)) (Mk := Finset.univ)
    (by rw [stage_set]; exact Finset.Subset.refl _)) $$ Hst
  iintro Hst
  have hread : accRead (nq n) f = A (nk n) c (nq n) := by rw [← hT, ← hf]
  rw [show (mAcc.access (rQ (nq n))).read (Elt F) f = A (nk n) c (nq n) from hread]
  ihave Hst := (stage_written c (nq n) _) $$ Hst
  iapply (send_spec A K c n _ fd W (read_stage_store (nq n) fs (rounded (A (nk n) c (nq n))))) $$ [Hst Hdst HO Hiss]
  · isplitr; · iexact HR
    isplitl [Hst]; · iexact Hst
    isplitl [Hdst]; · iexact Hdst
    isplitl [HO] <;> iassumption
  iintro ⟨HcS, HO⟩
  rw [wp_ret]; imodintro
  iapply Hk
  isplitr [Hacc]
  · isplitl [HcS Hends Hph]
    · isplitl [HcS Hends]
      · isplitl [HcS] <;> iassumption
      · iexact Hph
    isplitl [Hstr]
    · isplitr; · iempintro
      iexact Hstr
    iexists W; iexact HO
  · iexists f
    isplitr; · ipureintro; exact hf
    iexact Hacc

/-! ## Awaiting and adding -/

theorem accumulate_spec (c : Dev nD) (n : Fin 16) (s : ℕ) (hs : n.val < s) (hs' : s ≤ n.val + 4) (hs'' : s ≤ 16)
    (T : Fin 4 → Vec F S1x136x128 .f32) (Q : PUnit → sProp 𝕄) :
    iprop(records A K ∗ levAts L lv ∗ At c s n.val ∗ AccIs c T)
      ⊢ iprop(((At c s (n.val + 1) ∗ AccIs c (Function.update T (nq n) (addedTo (T (nq n)) (arriving A c n)))) -∗ Q ⟨⟩)
          -∗ runs c (accumulate n) Q) := by
  unfold At AccIs accumulate runs
  simp only [Prog.lift, Prog.bind_op, Prog.bind_ret, Prog.pure_eq_ret]
  rw [bigSep_univ_at (fun i : Fin 16 => phase (F := F) c s n.val i) n,
    bigSep_univ_at (fun i : Fin 16 => phase (F := F) c s (n.val + 1) i) n,
    bigSep_univ_at (fun q : Fin 4 => stageAt (F := F) c s n.val q) (nq n),
    bigSep_univ_at (fun q : Fin 4 => stageAt (F := F) c s (n.val + 1) q) (nq n),
    phase_move c s n.val s (n.val + 1) n (fun i hi => ⟨by
      have : i.val ≠ n.val := fun e => hi (Fin.ext e)
      omega, Iff.rfl⟩),
    stage_move c s n.val s (n.val + 1) (nq n) (fun p hp => by
      have h1 : p.val ≠ n.val % 4 := fun e => hp (Fin.ext e)
      have := p.isLt
      omega)]
  rw [show phase (F := F) c s n.val n = flying c n from by
      unfold phase; rw [if_neg (by omega), if_pos (by omega)],
    show phase (F := F) c s (n.val + 1) n = landed c n from by
      unfold phase; rw [if_pos (by omega)],
    show stageAt (F := F) c s n.val (nq n) = iprop(emp) from by
      unfold stageAt; rw [if_pos]; show (n.val % 4 + 4 - n.val % 4) % 4 < s - n.val; omega,
    show stageAt (F := F) c s (n.val + 1) (nq n) = iprop(∃ f, stagePts (F := F) c (nq n) f) from by
      unfold stageAt; rw [if_neg]; show ¬ (n.val % 4 + 4 - (n.val + 1) % 4) % 4 < s - (n.val + 1); omega]
  unfold flying ends landed
  iintro ⟨#HR, #HL, ⟨⟨⟨HcS, HaS, HaR, HcR⟩, Hph⟩, ⟨-, Hstr⟩, ⟨%W, HO⟩⟩, ⟨%f, %hf, Hacc⟩⟩ Hk
  iapply (Rounds.wp_wait_rest_token 𝒱₀ ER (sched A) (c : Thread nD τ) none (κ := K (c, .inr (.inl n)))
      (wpE_waitDma2_eq 𝒱₀ (c : Thread nD τ) none Set.univ) (Set.mem_univ _) () (O := owedFrom c s) (W := W) (R := 0) (m := 0) (T := ∅)
      (by rw [Nat.zero_add, expect_send])) $$ [HcS HO HaS]
  · isplitr; · iapply (inv_of A K (c, .inr (.inl n))); iexact HR
    isplitl [HcS]; · iexact HcS
    isplitl [HO]; · iexact HO
    isplitr; · iapply (mayWait_from c (.dma (sendSem n)) s (by rw [lev_send]; omega)); iexact HL
    iexact HaS
  iintro ⟨HO, HaS, -, Hpay⟩
  ihave Hst := (Entails.of_eq (rest_send A c n)) $$ Hpay
  iapply (Rounds.wp_wait_rest_token 𝒱₀ ER (sched A) (c : Thread nD τ) none (κ := K (c, .inr (.inr n)))
      (wpE_waitDma2_eq 𝒱₀ (c : Thread nD τ) none Set.univ) (Set.mem_univ _) () (O := owedFrom c s)
      (W := insert (SemLoc.dma (sendSem n), ()) W) (R := 0) (m := 0) (T := ∅)
      (by rw [Nat.zero_add, expect_recv])) $$ [HcR HO HaR]
  · isplitr; · iapply (inv_of A K (c, .inr (.inr n))); iexact HR
    isplitl [HcR]; · iexact HcR
    isplitl [HO]; · iexact HO
    isplitr; · iapply (mayWait_from c (.dma (recvSem n)) s (by rw [lev_recv]; omega)); iexact HL
    iexact HaR
  iintro ⟨HO, HaR, -, Hpay⟩
  ihave Hp := (Entails.of_eq (rest_recv A c n)) $$ Hpay
  unfold recvPay sendPay slotPts
  icases Hp with ⟨%g, %hg, Hslot⟩
  imod (Rounds.cell_close ER (sched A) (Set.mem_univ (K (c, .inr (.inl n)))) (fun h => h) (R := 0 + 1) (duties_later A (sendCell c n))) $$ [HaS] with HzS
  · isplitr; · iapply (inv_of A K (c, .inr (.inl n))); iexact HR
    iexact HaS
  imod (Rounds.cell_close ER (sched A) (Set.mem_univ (K (c, .inr (.inr n)))) (fun h => h) (R := 0 + 1) (duties_later A (recvCell c n))) $$ [HaR] with HzR
  · isplitr; · iapply (inv_of A K (c, .inr (.inr n))); iexact HR
    iexact HaR
  iapply (wp_load_rect 𝒱₀ (c : Thread nD τ) none Set.univ (m := mAcc) (r := rQ (nq n)) (Finset.subset_univ _)) $$ Hacc
  iintro Hacc
  iapply (wp_load_rect 𝒱₀ (c : Thread nD τ) none Set.univ (m := mComm) (r := rComm n) (by rw [slot_set])) $$ Hslot
  iintro Hslot
  iapply (wp_load_rect 𝒱₀ (c : Thread nD τ) none Set.univ (m := mAcc) (r := rQ (nq n)) (Finset.subset_univ _)) $$ Hacc
  iintro Hacc
  iapply (wp_store 𝒱₀ (c : Thread nD τ) none Set.univ (m := mAcc) (r := rQ (nq n)) (Mk := Finset.univ) (Finset.subset_univ _)) $$ Hacc
  iintro Hacc
  rw [wp_ret]; imodintro
  iapply Hk
  isplitr [Hacc]
  · isplitl [HzS HzR Hslot Hph]
    · isplitl [HzS HzR Hslot]
      · isplitl [HzS]; · iexact HzS
        isplitl [HzR]; · iexact HzR
        iexists g; iexact Hslot
      · iexact Hph
    isplitl [Hst Hstr]
    · isplitl [Hst] <;> iassumption
    iexists _; iexact HO
  · iexists _
    isplitr
    rotate_left
    · iexact Hacc
    · ipureintro
      subst hf
      funext q
      rw [show (mComm.access (rComm n)).read (Elt F) g = arriving A c n from hg]
      exact accRead_store (nq n) f _ q

/-! ## The barrier -/

/-- What device `c` brings to the barrier, and how it leaves. -/
def before (c : Dev nD) : sProp 𝕄 :=
  iprop((bigSep Finset.univ fun i : Fin 16 => iprop(issue (F := F) c i ∗ ends c i))
    ∗ (bigSep Finset.univ fun n : Fin 16 => iprop(∃ f, slotPts (F := F) c n f))
    ∗ (bigSep Finset.univ fun q : Fin 4 => iprop(∃ f, stagePts (F := F) c q f))
    ∗ (dutyTok ER (barCell (peer 0 c)) 0 0 ∗ dutyTok ER (barCell (peer 1 c)) 0 1 ∗ dutyTok ER (barCell (peer 2 c)) 0 2
        ∗ dutyTok ER (barCell (peer 3 c)) 0 3)
    ∗ atPos ER (barCell c) 0 ∅ 0 ∗ cred (tallyAt (barCell c) () 4)
    ∗ ∃ W, owes (c : Thread nD τ) (O₀ c) W)

theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ

theorem at_start (c : Dev nD) :
    iprop((bigSep Finset.univ fun i : Fin 16 => iprop(issue (F := F) c i ∗ ends c i))
      ∗ (bigSep Finset.univ fun n : Fin 16 => iprop(∃ f, slotPts (F := F) (peer (axis n) c) n f))
      ∗ (bigSep Finset.univ fun q : Fin 4 => iprop(∃ f, stagePts (F := F) c q f))
      ∗ ∃ W, owes (c : Thread nD τ) (owedFrom c 0) W) ⊢ At (F := F) c 0 0 := by
  unfold At
  rw [show (bigSep Finset.univ fun i : Fin 16 => phase (F := F) c 0 0 i)
      = bigSep Finset.univ fun i : Fin 16 => ready (F := F) c i from bigSep_congr fun i _ => by
        unfold phase; rw [if_neg (by omega), if_neg (by omega)],
    show (bigSep Finset.univ fun q : Fin 4 => stageAt (F := F) c 0 0 q)
      = bigSep Finset.univ fun q : Fin 4 => iprop(∃ f, stagePts (F := F) c q f) from bigSep_congr fun q _ => by
        unfold stageAt; rw [if_neg (by omega)]]
  unfold ready
  simp only [bigSep_sep']
  iintro ⟨⟨H1, H2⟩, H3, H4, H5⟩
  isplitl [H1 H2 H3]
  · isplitl [H1]; · iexact H1
    isplitl [H3] <;> iassumption
  isplitl [H4] <;> iassumption

theorem barrier_spec (c : Dev nD) (Q : PUnit → sProp 𝕄) :
    iprop(records A K ∗ levAts L lv ∗ before (F := F) c)
      ⊢ iprop(((At (F := F) c 0 0 ∗ semVal (barCell c) 0) -∗ Q ⟨⟩) -∗ runs c (barrierAll c) Q) := by
  unfold before barrierAll runs
  simp only [semSignalWord, semWaitWord, Prog.lift, Prog.bind_op, Prog.bind_ret, Prog.pure_eq_ret]
  rw [slots_out, bigSep_fin4]
  iintro ⟨#HR, #HL, Hiss, ⟨Hp0, Hp1, Hp2, Hp3⟩, Hstg, ⟨Ht0, Ht1, Ht2, Ht3⟩, Hat, Hcr, ⟨%W, HO⟩⟩ Hk
  iapply (Rounds.wp_signal 𝒱₀ ER (sched A) (c : Thread nD τ) none (dst := (peer 0 c : Thread nD τ)) (κ := K (peer 0 c, .inl ()))
      (d := 0) (by rw [duties_bar]; exact Finset.mem_univ _) rfl () (O₁ c) rfl) $$ [HO Ht0 Hp0]
  · isplitr; · iapply (inv_of A K (peer 0 c, .inl ())); iexact HR
    isplitl [HO]; · iexact HO
    isplitl [Ht0]; · iexact Ht0
    isplitl [Hp0]; · iapply (Entails.of_eq (payload_bar A (peer 0 c) 0).symm); iexact Hp0
    iapply (reached_of A K (peer 0 c, .inl ())); iexact HR
  iintro HO
  iapply (Rounds.wp_signal 𝒱₀ ER (sched A) (c : Thread nD τ) none (dst := (peer 1 c : Thread nD τ)) (κ := K (peer 1 c, .inl ()))
      (d := 1) (by rw [duties_bar]; exact Finset.mem_univ _) rfl () (O₂ c) rfl) $$ [HO Ht1 Hp1]
  · isplitr; · iapply (inv_of A K (peer 1 c, .inl ())); iexact HR
    isplitl [HO]; · iexact HO
    isplitl [Ht1]; · iexact Ht1
    isplitl [Hp1]; · iapply (Entails.of_eq (payload_bar A (peer 1 c) 1).symm); iexact Hp1
    iapply (reached_of A K (peer 1 c, .inl ())); iexact HR
  iintro HO
  iapply (Rounds.wp_signal 𝒱₀ ER (sched A) (c : Thread nD τ) none (dst := (peer 2 c : Thread nD τ)) (κ := K (peer 2 c, .inl ()))
      (d := 2) (by rw [duties_bar]; exact Finset.mem_univ _) rfl () (O₃ c) rfl) $$ [HO Ht2 Hp2]
  · isplitr; · iapply (inv_of A K (peer 2 c, .inl ())); iexact HR
    isplitl [HO]; · iexact HO
    isplitl [Ht2]; · iexact Ht2
    isplitl [Hp2]; · iapply (Entails.of_eq (payload_bar A (peer 2 c) 2).symm); iexact Hp2
    iapply (reached_of A K (peer 2 c, .inl ())); iexact HR
  iintro HO
  iapply (Rounds.wp_signal 𝒱₀ ER (sched A) (c : Thread nD τ) none (dst := (peer 3 c : Thread nD τ)) (κ := K (peer 3 c, .inl ()))
      (d := 3) (by rw [duties_bar]; exact Finset.mem_univ _) rfl () (owedFrom c 0) rfl) $$ [HO Ht3 Hp3]
  · isplitr; · iapply (inv_of A K (peer 3 c, .inl ())); iexact HR
    isplitl [HO]; · iexact HO
    isplitl [Ht3]; · iexact Ht3
    isplitl [Hp3]; · iapply (Entails.of_eq (payload_bar A (peer 3 c) 3).symm); iexact Hp3
    iapply (reached_of A K (peer 3 c, .inl ())); iexact HR
  iintro HO
  iapply (Rounds.wp_wait_rest_token 𝒱₀ ER (sched A) (c : Thread nD τ) none (κ := K (c, .inl ()))
      (wpE_semWait_eq 𝒱₀ (c : Thread nD τ) none Set.univ) (Set.mem_univ _) () (O := owedFrom c 0) (W := W) (R := 0) (m := 0) (T := ∅)
      (by rw [expect_bar]; rfl)) $$ [Hcr HO Hat]
  · isplitr; · iapply (inv_of A K (c, .inl ())); iexact HR
    isplitl [Hcr]; · iexact Hcr
    isplitl [HO]; · iexact HO
    isplitr; · iapply (mayWait_from c (.reg barSem) 0 (by decide)); iexact HL
    iexact Hat
  iintro ⟨HO, Hat, -, Hpay⟩
  ihave Hp := (Entails.of_eq ((rest_bar A c).trans (slots_in c))) $$ Hpay
  imod (Rounds.cell_close ER (sched A) (Set.mem_univ (K (c, .inl ()))) (fun h => h) (R := 0 + 1) (duties_later A (barCell c))) $$ [Hat] with Hz
  · isplitr; · iapply (inv_of A K (c, .inl ())); iexact HR
    iexact Hat
  rw [wp_ret]; imodintro
  iapply Hk
  isplitr [Hz]
  · iapply (at_start c)
    isplitl [Hiss]; · iexact Hiss
    isplitl [Hp]; · iexact Hp
    isplitl [Hstg]; · iexact Hstg
    iexists _; iexact HO
  · iexact Hz

end Cert.Proof

end
-- ==== Proof.Body.lean ====
/- The whole body, from what a device starts with to what it ends with. -/
module

public import proofs.«01_k».proof.Proof.Transfers

@[expose] public section

noncomputable section

namespace Cert.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The sums, as functions of what the devices are given -/

/-- What one device is given. -/
structure Inputs (F : FTy → Type) [FloatOps F] where
  x : (cc0_stg0_0 : Ref sig .tc).ty.Contents (Elt F)
  wq : (cc0_stg1_0 : Ref sig .tc).ty.Contents (Elt F)
  k : (cc0_stg2_0 : Ref sig .tc).ty.Contents (Elt F)
  v : (cc0_stg3_0 : Ref sig .tc).ty.Contents (Elt F)
  wo : (cc0_stg4_0 : Ref sig .tc).ty.Contents (Elt F)

namespace Inputs

variable (X : Inputs F)

/-- Its queries, its weights for one head, and a tile with that head put in. -/
def qs (b : Fin 2) : FVec F S128x256 .f32 := queries ((mx.access (rX b)).read (Elt F) X.x) ((mWq.access rWq).read (Elt F) X.wq)
def ws (c : Dev nD) (b : Fin 2) (h : Fin 4) : FVec F S128x128 .bf16 :=
  weights (maskOf c) (X.qs b) h ((mK.access (rKV b h)).read (Elt F) X.k)
def put (c : Dev nD) (b : Fin 2) (h : Fin 4) (t : Vec F S1x136x128 .f32) : Vec F S1x136x128 .f32 :=
  withHead h (headOut (X.ws c b h) ((mV.access (rKV b h)).read (Elt F) X.v)) (headSum (X.ws c b h)) t

/-- Device `c`'s own sums for the quarter of batch `b` and column half `j`. -/
def own (c : Dev nD) (b j : Fin 2) : Vec F S1x136x128 .f32 :=
  X.put c b ⟨2 * j.val + 1, by omega⟩ (X.put c b ⟨2 * j.val, by omega⟩ (cleared fun _ => Scalar.ofBits .f32 0x00000000#32))

end Inputs

/-- Quarter `q` of device `c`'s sums after `k` rounds. -/
def sums (I : Dev nD → Inputs F) : ℕ → Dev nD → Fin 4 → Vec F S1x136x128 .f32
  | 0, c, q => (I c).own c ⟨q.val / 2, by omega⟩ ⟨q.val % 2, by omega⟩
  | k + 1, c, q => addedTo (sums I k c q) (toSlot (rounded (sums I k (peer ⟨(k + q.val) % 4, by omega⟩ c) q)))

/-- The projected half of quarter `q`, and the result. -/
def projected (I : Dev nD → Inputs F) (c : Dev nD) (q : Fin 4) : FVec F S128x512 .f32 :=
  halfProj (tileSums (sums I 4 c q)) (tileCtx (sums I 4 c q)) ((mWo.access (rWo q)).read (Elt F) (I c).wo)
def result (I : Dev nD → Inputs F) (c : Dev nD) : Vec F S2x128x512 .f32 :=
  outOf (bothHalves (projected I c 0) (projected I c 1)) (bothHalves (projected I c 2) (projected I c 3))

/-- Two heads put into a cleared tile determine it. -/
theorem put_put (h h' : Fin 4) (hh : h.val % 2 = 0) (hh' : h'.val % 2 = 1) (o o' : Vec F S1x128x64 .f32) (s s' : Vec F S1x1x128 .f32)
    (t t' : Vec F S1x136x128 .f32) :
    withHead h' o' s' (withHead h o s (cleared t)) = withHead h' o' s' (withHead h o s (cleared t')) := by
  funext j
  have hj2 : (j 2).val < 128 := (j 2).isLt
  have hd : (j 2).val / 64 = 0 ∨ (j 2).val / 64 = 1 := by omega
  unfold withHead cleared
  by_cases e1 : (j 1).val = 128 + h'.val % 2
  · rw [dif_pos e1, dif_pos e1]
  rw [dif_neg e1, dif_neg e1]
  by_cases e2 : (j 1).val < 128 ∧ (j 2).val / 64 = h'.val % 2
  · rw [dif_pos e2, dif_pos e2]
  rw [dif_neg e2, dif_neg e2]
  by_cases e3 : (j 1).val = 128 + h.val % 2
  · rw [dif_pos e3, dif_pos e3]
  rw [dif_neg e3, dif_neg e3]
  by_cases e4 : (j 1).val < 128 ∧ (j 2).val / 64 = h.val % 2
  · rw [dif_pos e4, dif_pos e4]
  rw [dif_neg e4, dif_neg e4, if_pos (by omega), if_pos (by omega)]

/-! ## The three parts -/

variable (I : Dev nD → Inputs F) (K : Dev nD × CI → ℕ)

/-- Device `c`'s five inputs in place. -/
def Given (c : Dev nD) : sProp 𝕄 :=
  iprop(Holds c cc0_stg0_0 (I c).x ∗ Holds c cc0_stg1_0 (I c).wq ∗ Holds c cc0_stg2_0 (I c).k ∗ Holds c cc0_stg3_0 (I c).v
    ∗ Holds c cc0_stg4_0 (I c).wo)

theorem queries_spec (c : Dev nD) (b : Fin 2) (Q : FVec F S128x256 .f32 → sProp 𝕄) :
    Given I c ⊢ iprop((Given I c -∗ Q ((I c).qs b)) -∗ runs c (loadQueries b) Q) := by
  unfold Given
  iintro ⟨Hx, Hw, H⟩ Hk
  iapply (loadQueries_spec c b (I c).x (I c).wq Q) $$ [Hx Hw]
  · isplitl [Hx] <;> iassumption
  iintro ⟨Hx, Hw⟩
  rw [show queries ((mx.access (rX b)).read (Elt F) (I c).x) ((mWq.access rWq).read (Elt F) (I c).wq) = (I c).qs b from rfl]
  iapply Hk
  isplitl [Hx]; · iexact Hx
  isplitl [Hw] <;> iassumption

theorem twoHeads_spec (c : Dev nD) (b j : Fin 2) (q : Fin 4) (hq : q.val = 2 * b.val + j.val) (T : Fin 4 → Vec F S1x136x128 .f32)
    (t : Vec F S1x136x128 .f32) (hT : T q = cleared t) (Q : PUnit → sProp 𝕄) :
    iprop(AccIs c T ∗ Given I c)
      ⊢ iprop(((AccIs c (Function.update T q (sums I 0 c q)) ∗ Given I c) -∗ Q ⟨⟩)
          -∗ runs c (twoHeads (maskOf c) ((I c).qs b) b j) Q) := by
  have l0 : 2 * j.val < 4 := by omega
  have l1 : 2 * j.val + 1 < 4 := by omega
  have hq0 : quarterOf b ⟨2 * j.val, l0⟩ = q := Fin.ext (by simp only [quarterOf]; omega)
  have hq1 : quarterOf b ⟨2 * j.val + 1, l1⟩ = q := Fin.ext (by simp only [quarterOf]; omega)
  have hb : (⟨q.val / 2, by omega⟩ : Fin 2) = b := Fin.ext (by show q.val / 2 = b.val; omega)
  have hj : (⟨q.val % 2, by omega⟩ : Fin 2) = j := Fin.ext (by show q.val % 2 = j.val; omega)
  unfold Given twoHeads
  iintro ⟨Hacc, Hx, Hw, Hkk, Hv, Ho⟩ Hk
  simp only [wp_bind]
  iapply (head_spec c (maskOf c) ((I c).qs b) b ⟨2 * j.val, l0⟩ T (I c).k (I c).v _) $$ [Hacc Hkk Hv]
  · isplitl [Hacc]; · iexact Hacc
    isplitl [Hkk] <;> iassumption
  iintro ⟨Hacc, Hkk, Hv⟩
  iapply (head_spec c (maskOf c) ((I c).qs b) b ⟨2 * j.val + 1, l1⟩ _ (I c).k (I c).v _) $$ [Hacc Hkk Hv]
  · isplitl [Hacc]; · iexact Hacc
    isplitl [Hkk] <;> iassumption
  iintro ⟨Hacc, Hkk, Hv⟩
  iapply Hk
  rw [hq0, hq1, Function.update_idem, Function.update_self, hT]
  rw [show sums I 0 c q = (I c).own c b j from by unfold sums; rw [hb, hj],
    show (I c).own c b j = _ from put_put ⟨2 * j.val, l0⟩ ⟨2 * j.val + 1, l1⟩ (by show 2 * j.val % 2 = 0; omega) (by show (2 * j.val + 1) % 2 = 1; omega)
      _ _ _ _ _ t]
  isplitl [Hacc]; · iexact Hacc
  isplitl [Hx]; · iexact Hx
  isplitl [Hw]; · iexact Hw
  isplitl [Hkk]; · iexact Hkk
  isplitl [Hv] <;> iassumption

/-- The quarters with batch `b`'s rows of sums cleared, and with quarter `q` replaced by the device's own sums. -/
abbrev zeroed (b : Fin 2) (T : Fin 4 → Vec F S1x136x128 .f32) : Fin 4 → Vec F S1x136x128 .f32 :=
  fun q => if qb q = b.val then cleared (T q) else T q
abbrev withOwn (c : Dev nD) (q : Fin 4) (T : Fin 4 → Vec F S1x136x128 .f32) : Fin 4 → Vec F S1x136x128 .f32 :=
  Function.update T q (sums I 0 c q)

theorem opening_spec (c : Dev nD) (T : Fin 4 → Vec F S1x136x128 .f32) (Q : PUnit → sProp 𝕄) :
    iprop(records (sums I) K ∗ levAts L lv ∗ before (F := F) c ∗ AccIs c T ∗ Given I c)
      ⊢ iprop(((At (F := F) c 4 0 ∗ semVal (barCell c) 0 ∗ AccIs c (sums I 0 c) ∗ Given I c) -∗ Q ⟨⟩) -∗ runs c (opening c) Q) := by
  unfold opening
  iintro ⟨#HR, #HL, Hb, Hacc, Hg⟩ Hk
  simp only [wp_bind]
  iapply (zeroRows_spec c 0 T _) $$ Hacc
  iintro Hacc
  iapply (queries_spec I c 0 _) $$ Hg
  iintro Hg
  iapply (twoHeads_spec I c 0 0 0 rfl (zeroed 0 T) (T 0) rfl _) $$ [Hacc Hg]
  · isplitl [Hacc] <;> iassumption
  iintro ⟨Hacc, Hg⟩
  iapply (barrier_spec (sums I) K c _) $$ [Hb]
  · isplitr; · iexact HR
    isplitr; · iexact HL
    iexact Hb
  iintro ⟨Hat, Hz⟩
  iapply (exchange_spec (sums I) K c 0 0 (by decide) (by decide) (withOwn I c 0 (zeroed 0 T)) rfl _) $$ [Hat Hacc]
  · isplitr; · iexact HR
    isplitl [Hat]; · iexact Hat
    iexact Hacc
  iintro ⟨Hat, Hacc⟩
  iapply (twoHeads_spec I c 0 1 1 rfl (withOwn I c 0 (zeroed 0 T)) (T 1) rfl _) $$ [Hacc Hg]
  · isplitl [Hacc] <;> iassumption
  iintro ⟨Hacc, Hg⟩
  iapply (exchange_spec (sums I) K c 1 0 (by decide) (by decide) (withOwn I c 1 (withOwn I c 0 (zeroed 0 T))) rfl _) $$ [Hat Hacc]
  · isplitr; · iexact HR
    isplitl [Hat]; · iexact Hat
    iexact Hacc
  iintro ⟨Hat, Hacc⟩
  iapply (zeroRows_spec c 1 (withOwn I c 1 (withOwn I c 0 (zeroed 0 T))) _) $$ Hacc
  iintro Hacc
  iapply (queries_spec I c 1 _) $$ Hg
  iintro Hg
  iapply (twoHeads_spec I c 1 0 2 rfl (zeroed 1 (withOwn I c 1 (withOwn I c 0 (zeroed 0 T)))) (T 2) rfl _) $$ [Hacc Hg]
  · isplitl [Hacc] <;> iassumption
  iintro ⟨Hacc, Hg⟩
  iapply (exchange_spec (sums I) K c 2 0 (by decide) (by decide) (withOwn I c 2 (zeroed 1 (withOwn I c 1 (withOwn I c 0 (zeroed 0 T))))) rfl _) $$ [Hat Hacc]
  · isplitr; · iexact HR
    isplitl [Hat]; · iexact Hat
    iexact Hacc
  iintro ⟨Hat, Hacc⟩
  iapply (twoHeads_spec I c 1 1 3 rfl (withOwn I c 2 (zeroed 1 (withOwn I c 1 (withOwn I c 0 (zeroed 0 T))))) (T 3) rfl _) $$ [Hacc Hg]
  · isplitl [Hacc] <;> iassumption
  iintro ⟨Hacc, Hg⟩
  iapply (exchange_spec (sums I) K c 3 0 (by decide) (by decide) (withOwn I c 3 (withOwn I c 2 (zeroed 1 (withOwn I c 1 (withOwn I c 0 (zeroed 0 T)))))) rfl _) $$ [Hat Hacc]
  · isplitr; · iexact HR
    isplitl [Hat]; · iexact Hat
    iexact Hacc
  iintro ⟨Hat, Hacc⟩
  iapply Hk
  isplitl [Hat]; · iexact Hat
  isplitl [Hz]; · iexact Hz
  isplitl [Hacc]
  · ihave Hacc := (Entails.of_eq (congrArg (AccIs c) (show (withOwn I c 3 (withOwn I c 2 (zeroed 1 (withOwn I c 1 (withOwn I c 0 (zeroed 0 T)))))) = sums I 0 c from by
      funext q; fin_cases q <;> rfl))) $$ Hacc
    iexact Hacc
  · iexact Hg

/-- The accumulator when the transfers before `d` are added. -/
def upTo (c : Dev nD) (d : ℕ) : Fin 4 → Vec F S1x136x128 .f32 := fun q => sums I ((d + 3 - q.val) / 4) c q

theorem upTo_step (c : Dev nD) (n : Fin 16) :
    Function.update (upTo I c n.val) (nq n) (addedTo (upTo I c n.val (nq n)) (arriving (sums I) c n)) = upTo I c (n.val + 1) := by
  funext q
  by_cases h : q = nq n
  · subst h
    rw [Function.update_self]
    have e0 : (n.val + 3 - (nq n).val) / 4 = nk n := by simp only [nq, nk]; omega
    have e1 : (n.val + 1 + 3 - (nq n).val) / 4 = nk n + 1 := by simp only [nq, nk]; omega
    unfold upTo
    rw [e0, e1]
    rfl
  · rw [Function.update_of_ne h]
    have hv : q.val ≠ n.val % 4 := fun e => h (Fin.ext e)
    have e : (n.val + 3 - q.val) / 4 = (n.val + 1 + 3 - q.val) / 4 := by omega
    unfold upTo
    rw [e]

theorem add_spec (c : Dev nD) (n : Fin 16) (s : ℕ) (hs : n.val < s) (hs' : s ≤ n.val + 4) (hs'' : s ≤ 16) (Q : PUnit → sProp 𝕄) :
    iprop(records (sums I) K ∗ levAts L lv ∗ At c s n.val ∗ AccIs c (upTo I c n.val))
      ⊢ iprop(((At c s (n.val + 1) ∗ AccIs c (upTo I c (n.val + 1))) -∗ Q ⟨⟩) -∗ runs c (accumulate n) Q) := by
  rw [← upTo_step]
  exact accumulate_spec (sums I) K c n s hs hs' hs'' _ Q

theorem step_spec (c : Dev nD) (n m : Fin 16) (hm : m.val = n.val + 4) (Q : PUnit → sProp 𝕄) :
    iprop(records (sums I) K ∗ levAts L lv ∗ At c m.val n.val ∗ AccIs c (upTo I c n.val))
      ⊢ iprop(((At c (m.val + 1) (n.val + 1) ∗ AccIs c (upTo I c (n.val + 1))) -∗ Q ⟨⟩) -∗ runs c (step c n m) Q) := by
  unfold step
  iintro ⟨#HR, #HL, Hat, Hacc⟩ Hk
  simp only [wp_bind]
  iapply (add_spec I K c n m.val (by omega) (by omega) (by omega) _) $$ [Hat Hacc]
  · isplitr; · iexact HR
    isplitr; · iexact HL
    isplitl [Hat] <;> iassumption
  iintro ⟨Hat, Hacc⟩
  iapply (exchange_spec (sums I) K c m (n.val + 1) (by omega) (by omega) (upTo I c (n.val + 1)) (by
    unfold upTo
    have e : (n.val + 1 + 3 - (nq m).val) / 4 = nk m := by simp only [nq, nk]; omega
    rw [e]) _) $$ [Hat Hacc]
  · isplitr; · iexact HR
    isplitl [Hat] <;> iassumption
  iexact Hk

theorem rounds_spec (c : Dev nD) (Q : PUnit → sProp 𝕄) :
    iprop(records (sums I) K ∗ levAts L lv ∗ At c 4 0 ∗ AccIs c (sums I 0 c))
      ⊢ iprop(((At c 16 12 ∗ AccIs c (upTo I c 12)) -∗ Q ⟨⟩) -∗ runs c (rounds c) Q) := by
  have next (n m : Fin 16) (hm : m.val = n.val + 4) (p : KProg F PUnit) (Q : PUnit → sProp 𝕄)
      (h : iprop(records (sums I) K ∗ levAts L lv ∗ At c (m.val + 1) (n.val + 1) ∗ AccIs c (upTo I c (n.val + 1)))
        ⊢ iprop(((At c 16 12 ∗ AccIs c (upTo I c 12)) -∗ Q ⟨⟩) -∗ runs c p Q)) :
      iprop(records (sums I) K ∗ levAts L lv ∗ At c m.val n.val ∗ AccIs c (upTo I c n.val))
        ⊢ iprop(((At c 16 12 ∗ AccIs c (upTo I c 12)) -∗ Q ⟨⟩) -∗ runs c (step c n m >>= fun _ => p) Q) := by
    iintro ⟨#HR, #HL, Hat, Hacc⟩ Hk
    simp only [wp_bind]
    iapply (step_spec I K c n m hm _) $$ [Hat Hacc]
    · isplitr; · iexact HR
      isplitr; · iexact HL
      isplitl [Hat] <;> iassumption
    iintro ⟨Hat, Hacc⟩
    iapply h $$ [Hat Hacc] [Hk]
    · isplitr; · iexact HR
      isplitr; · iexact HL
      isplitl [Hat] <;> iassumption
    iexact Hk
  rw [show sums I 0 c = upTo I c 0 from by
    funext q
    unfold upTo
    rw [show (0 + 3 - q.val) / 4 = 0 from by omega]]
  exact next 0 4 rfl _ Q (next 1 5 rfl _ Q (next 2 6 rfl _ Q (next 3 7 rfl _ Q (next 4 8 rfl _ Q (next 5 9 rfl _ Q
    (next 6 10 rfl _ Q (next 7 11 rfl _ Q (next 8 12 rfl _ Q (next 9 13 rfl _ Q (next 10 14 rfl _ Q
      (step_spec I K c 11 15 rfl Q)))))))))))

theorem finish_spec (c : Dev nD) (n m : Fin 16) (q p : Fin 4) (b : Fin 2) (hn : n.val = 12 + q.val) (hm : m.val = n.val + 1)
    (hp : p.val = q.val + 1) (X : (cc0_stg5_0 : Ref sig .tc).ty.Contents (Elt F)) (Q : PUnit → sProp 𝕄) :
    iprop(records (sums I) K ∗ levAts L lv ∗ At c 16 n.val ∗ AccIs c (upTo I c n.val) ∗ Given I c ∗ Holds c cc0_stg5_0 X)
      ⊢ iprop(((At c 16 (m.val + 1) ∗ AccIs c (upTo I c (m.val + 1)) ∗ Given I c
          ∗ Holds c cc0_stg5_0 ((mOut.access (rX b)).write (Elt F) X (bothHalves (projected I c q) (projected I c p)) Finset.univ)) -∗ Q ⟨⟩)
        -∗ runs c (finish n m q p b) Q) := by
  unfold Given finish
  iintro ⟨#HR, #HL, Hat, Hacc, ⟨Hx, Hw, Hkk, Hv, Ho⟩, Hout⟩ Hk
  simp only [wp_bind]
  iapply (add_spec I K c n 16 (by omega) (by omega) (by omega) _) $$ [Hat Hacc]
  · isplitr; · iexact HR
    isplitr; · iexact HL
    isplitl [Hat] <;> iassumption
  iintro ⟨Hat, Hacc⟩
  iapply (project_spec c q _ (I c).wo _) $$ [Hacc Ho]
  · isplitl [Hacc] <;> iassumption
  iintro ⟨Hacc, Ho⟩
  rw [show upTo I c (n.val + 1) q = sums I 4 c q from by
    unfold upTo
    rw [show (n.val + 1 + 3 - q.val) / 4 = 4 from by omega], ← hm]
  iapply (add_spec I K c m 16 (by omega) (by omega) (by omega) _) $$ [Hat Hacc]
  · isplitr; · iexact HR
    isplitr; · iexact HL
    isplitl [Hat] <;> iassumption
  iintro ⟨Hat, Hacc⟩
  iapply (project_spec c p _ (I c).wo _) $$ [Hacc Ho]
  · isplitl [Hacc] <;> iassumption
  iintro ⟨Hacc, Ho⟩
  rw [show upTo I c (m.val + 1) p = sums I 4 c p from by
    unfold upTo
    rw [show (m.val + 1 + 3 - p.val) / 4 = 4 from by omega]]
  iapply (storeOut_spec c b _ X _) $$ Hout
  iintro Hout
  iapply Hk
  isplitl [Hat]; · iexact Hat
  isplitl [Hacc]; · iexact Hacc
  isplitl [Hx Hw Hkk Hv Ho]
  · isplitl [Hx]; · iexact Hx
    isplitl [Hw]; · iexact Hw
    isplitl [Hkk]; · iexact Hkk
    isplitl [Hv] <;> iassumption
  iexact Hout

theorem closing_spec (c : Dev nD) (X : (cc0_stg5_0 : Ref sig .tc).ty.Contents (Elt F)) (Q : PUnit → sProp 𝕄) :
    iprop(records (sums I) K ∗ levAts L lv ∗ At c 16 12 ∗ AccIs c (upTo I c 12) ∗ Given I c ∗ Holds c cc0_stg5_0 X)
      ⊢ iprop(((At c 16 16 ∗ AccIs c (upTo I c 16) ∗ Given I c ∗ Holds c cc0_stg5_0 (result I c)) -∗ Q ⟨⟩) -∗ runs c closing Q) := by
  unfold closing runs
  iintro ⟨#HR, #HL, Hat, Hacc, Hg, Hout⟩ Hk
  simp only [wp_bind]
  iapply (finish_spec I K c 12 13 0 1 0 rfl rfl rfl X _) $$ [Hat Hacc Hg Hout]
  · isplitr; · iexact HR
    isplitr; · iexact HL
    isplitl [Hat]; · iexact Hat
    isplitl [Hacc]; · iexact Hacc
    isplitl [Hg] <;> iassumption
  iintro ⟨Hat, Hacc, Hg, Hout⟩
  iapply (finish_spec I K c 14 15 2 3 1 rfl rfl rfl _ _) $$ [Hat Hacc Hg Hout]
  · isplitr; · iexact HR
    isplitr; · iexact HL
    isplitl [Hat]; · iexact Hat
    isplitl [Hacc]; · iexact Hacc
    isplitl [Hg] <;> iassumption
  rw [write_out]
  iexact Hk

set_option maxRecDepth 65536 in
theorem runs_body (c : Dev nD) (Q : PUnit → sProp 𝕄) : runs c (bodyAt0 (F := F) t0_0) Q = runs c (body c) Q :=
  (congrArg (fun p => runs c p Q) body_eq).trans
    (wp_deviceId 𝒱₀ (c : Thread nD τ) none Set.univ (k := (body : Dev nD → KProg F PUnit)))

/-- The body: from the barrier's share of every device to the result, nothing owed and every transfer awaited. -/
theorem body_spec (c : Dev nD) (T : Fin 4 → Vec F S1x136x128 .f32) (X : (cc0_stg5_0 : Ref sig .tc).ty.Contents (Elt F))
    (Q : PUnit → sProp 𝕄) :
    iprop(records (sums I) K ∗ levAts L lv ∗ before (F := F) c ∗ AccIs c T ∗ Given I c ∗ Holds c cc0_stg5_0 X)
      ⊢ iprop(((At (F := F) c 16 16 ∗ semVal (barCell c) 0 ∗ (∃ T, AccIs c T) ∗ Given I c ∗ Holds c cc0_stg5_0 (result I c)) -∗ Q ⟨⟩)
        -∗ runs c (bodyAt0 (F := F) t0_0) Q) := by
  rw [runs_body]
  unfold body runs
  iintro ⟨#HR, #HL, Hb, Hacc, Hg, Hout⟩ Hk
  simp only [wp_bind]
  iapply (opening_spec I K c T _) $$ [Hb Hacc Hg]
  · isplitr; · iexact HR
    isplitr; · iexact HL
    isplitl [Hb]; · iexact Hb
    isplitl [Hacc] <;> iassumption
  iintro ⟨Hat, Hz, Hacc, Hg⟩

  iapply (rounds_spec I K c _) $$ [Hat Hacc]
  · isplitr; · iexact HR
    isplitr; · iexact HL
    isplitl [Hat] <;> iassumption
  iintro ⟨Hat, Hacc⟩
  iapply (closing_spec I K c X _) $$ [Hat Hacc Hg Hout]
  · isplitr; · iexact HR
    isplitr; · iexact HL
    isplitl [Hat]; · iexact Hat
    isplitl [Hacc]; · iexact Hacc
    isplitl [Hg] <;> iassumption
  iintro ⟨Hat, Hacc, Hg, Hout⟩
  iapply Hk
  isplitl [Hat]; · iexact Hat
  isplitl [Hz]; · iexact Hz
  isplitl [Hacc]; · iexists _; iexact Hacc
  isplitl [Hg] <;> iassumption

end Cert.Proof

end
-- ==== Proof.Pieces.lean ====
/- The two transfer buffers, whole at the start and at the end, held piece by piece in between. -/
module

public import proofs.«01_k».proof.Proof.Body
public import Idealize.ShloMosaic.Lib.Ring

@[expose] public section

noncomputable section

namespace Cert.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-- The elements of slot `n`, and of stage quarter `q`. -/
def inSlot (n : Fin 16) : Finset S4x4x136x128.Idx := (rComm n).set
def inQuarter (q : Fin 4) : Finset S2x136x256.Idx := (rQ q).set

theorem slot_eq (n : Fin 16) : (slot n).view.set = inSlot n := (slot_set n).trans (View.set_slice_whole cc0_scratch2 (rComm n))
theorem quarter_eq (q : Fin 4) : (stageQ q).view.set = inQuarter q := (stage_set q).trans (View.set_slice_whole cc0_scratch1 (rQ q))

theorem slots_disjoint (n n' : Fin 16) (h : n ≠ n') : Disjoint (inSlot n) (inSlot n') := by
  by_cases hk : n.val / 4 = n'.val / 4
  · refine Rect.unit_disjoint (1 : Fin 4) ?_
    have : n.val ≠ n'.val := fun e => h (Fin.ext e)
    show n.val % 4 + 1 ≤ n'.val % 4 ∨ n'.val % 4 + 1 ≤ n.val % 4
    omega
  · refine Rect.unit_disjoint (0 : Fin 4) ?_
    show n.val / 4 + 1 ≤ n'.val / 4 ∨ n'.val / 4 + 1 ≤ n.val / 4
    omega
theorem quarters_disjoint (q q' : Fin 4) (h : q ≠ q') : Disjoint (inQuarter q) (inQuarter q') := by
  by_cases hk : q.val / 2 = q'.val / 2
  · refine Rect.unit_disjoint (2 : Fin 3) ?_
    have : q.val ≠ q'.val := fun e => h (Fin.ext e)
    show 128 * (q.val % 2) + 128 ≤ 128 * (q'.val % 2) ∨ 128 * (q'.val % 2) + 128 ≤ 128 * (q.val % 2)
    omega
  · refine Rect.unit_disjoint (0 : Fin 3) ?_
    show q.val / 2 + 1 ≤ q'.val / 2 ∨ q'.val / 2 + 1 ≤ q.val / 2
    omega

theorem slots_cover : Finset.univ.biUnion inSlot = Finset.univ := by
  refine Finset.eq_univ_iff_forall.mpr fun i => Finset.mem_biUnion.mpr ?_
  have h0 : (i 0).val < 4 := (i 0).isLt
  have h1 : (i 1).val < 4 := (i 1).isLt
  have h2 : (i 2).val < 136 := (i 2).isLt
  have h3 : (i 3).val < 128 := (i 3).isLt
  refine ⟨⟨4 * (i 0).val + (i 1).val, by omega⟩, Finset.mem_univ _, Rect.mem_set_unit.mpr fun a => ?_⟩
  fin_cases a
  · show (4 * (i 0).val + (i 1).val) / 4 ≤ (i 0).val ∧ (i 0).val < (4 * (i 0).val + (i 1).val) / 4 + 1; omega
  · show (4 * (i 0).val + (i 1).val) % 4 ≤ (i 1).val ∧ (i 1).val < (4 * (i 0).val + (i 1).val) % 4 + 1; omega
  · show 0 ≤ (i 2).val ∧ (i 2).val < 0 + 136; omega
  · show 0 ≤ (i 3).val ∧ (i 3).val < 0 + 128; omega
theorem quarters_cover : Finset.univ.biUnion inQuarter = Finset.univ := by
  refine Finset.eq_univ_iff_forall.mpr fun i => Finset.mem_biUnion.mpr ?_
  have h0 : (i 0).val < 2 := (i 0).isLt
  have h1 : (i 1).val < 136 := (i 1).isLt
  have h2 : (i 2).val < 256 := (i 2).isLt
  refine ⟨⟨2 * (i 0).val + (i 2).val / 128, by omega⟩, Finset.mem_univ _, Rect.mem_set_unit.mpr fun a => ?_⟩
  fin_cases a
  · show (2 * (i 0).val + (i 2).val / 128) / 2 ≤ (i 0).val ∧ (i 0).val < (2 * (i 0).val + (i 2).val / 128) / 2 + 1; omega
  · show 0 ≤ (i 1).val ∧ (i 1).val < 0 + 136; omega
  · show 128 * ((2 * (i 0).val + (i 2).val / 128) % 2) ≤ (i 2).val
      ∧ (i 2).val < 128 * ((2 * (i 0).val + (i 2).val / 128) % 2) + 128
    omega

/-- A device's buffers for arriving and for leaving sums, whole. -/
abbrev commLoc (c : Dev nD) : Loc nD τ sig := (c : Thread nD τ).loc cc0_scratch2
abbrev stageLoc (c : Dev nD) : Loc nD τ sig := (c : Thread nD τ).loc cc0_scratch1

theorem slotPts_eq (c : Dev nD) (n : Fin 16) (f : Buf (Elt F) (commLoc c)) :
    (slotPts c n f : sProp 𝕄) = (commLoc c ↦[(inSlot n : Finset (Idx (commLoc c)))]{fullShare} f) :=
  congrArg (fun S : Finset (Idx (commLoc c)) => (commLoc c ↦[S]{fullShare} f : sProp 𝕄)) (slot_eq n)
theorem stagePts_eq (c : Dev nD) (q : Fin 4) (f : Buf (Elt F) (stageLoc c)) :
    (stagePts c q f : sProp 𝕄) = (stageLoc c ↦[(inQuarter q : Finset (Idx (stageLoc c)))]{fullShare} f) :=
  congrArg (fun S : Finset (Idx (stageLoc c)) => (stageLoc c ↦[S]{fullShare} f : sProp 𝕄)) (quarter_eq q)

theorem comm_split (c : Dev nD) (f : Buf (Elt F) (commLoc c)) :
    (commLoc c ↦{fullShare} f : sProp 𝕄) ⊢ bigSep Finset.univ fun n : Fin 16 => iprop(∃ f, slotPts (F := F) c n f) := by
  rw [Ring.pointsTo_blocks (ℓ := commLoc c) inSlot slots_disjoint slots_cover f]
  refine bigSep_mono fun n _ => show _ ⊢ (iprop(∃ f, slotPts (F := F) c n f) : sProp 𝕄) from ?_
  iintro H
  iexists f
  iapply (Entails.of_eq (slotPts_eq c n f).symm); iexact H
theorem stage_split (c : Dev nD) (f : Buf (Elt F) (stageLoc c)) :
    (stageLoc c ↦{fullShare} f : sProp 𝕄) ⊢ bigSep Finset.univ fun q : Fin 4 => iprop(∃ f, stagePts (F := F) c q f) := by
  rw [Ring.pointsTo_blocks (ℓ := stageLoc c) inQuarter quarters_disjoint quarters_cover f]
  refine bigSep_mono fun q _ => show _ ⊢ (iprop(∃ f, stagePts (F := F) c q f) : sProp 𝕄) from ?_
  iintro H
  iexists f
  iapply (Entails.of_eq (stagePts_eq c q f).symm); iexact H

theorem comm_join (c : Dev nD) :
    (bigSep Finset.univ fun n : Fin 16 => iprop(∃ f, slotPts (F := F) c n f)) ⊢ (iprop(∃ g, commLoc c ↦{fullShare} g) : sProp 𝕄) := by
  refine BI.Entails.trans (bigSep_mono fun n _ => show iprop(∃ f, slotPts (F := F) c n f)
      ⊢ (iprop(∃ f, commLoc c ↦[(inSlot n : Finset (Idx (commLoc c)))]{fullShare} f) : sProp 𝕄) from ?_)
    (Ring.pointsTo_blocks_join_exists (ℓ := commLoc c) inSlot slots_disjoint slots_cover (fun _ => Scalar.ofBits .bf16 0))
  iintro ⟨%f, H⟩
  iexists f
  iapply (Entails.of_eq (slotPts_eq c n f)); iexact H
theorem stage_join (c : Dev nD) :
    (bigSep Finset.univ fun q : Fin 4 => iprop(∃ f, stagePts (F := F) c q f)) ⊢ (iprop(∃ g, stageLoc c ↦{fullShare} g) : sProp 𝕄) := by
  refine BI.Entails.trans (bigSep_mono fun q _ => show iprop(∃ f, stagePts (F := F) c q f)
      ⊢ (iprop(∃ f, stageLoc c ↦[(inQuarter q : Finset (Idx (stageLoc c)))]{fullShare} f) : sProp 𝕄) from ?_)
    (Ring.pointsTo_blocks_join_exists (ℓ := stageLoc c) inQuarter quarters_disjoint quarters_cover (fun _ => Scalar.ofBits .bf16 0))
  iintro ⟨%f, H⟩
  iexists f
  iapply (Entails.of_eq (stagePts_eq c q f)); iexact H

theorem sep_shift (P Q R : sProp 𝕄) : iprop(P ∗ Q ∗ R) = iprop((P ∗ Q) ∗ R) :=
  BI.equiv_iff.mp ⟨show iprop(P ∗ Q ∗ R) ⊢ iprop((P ∗ Q) ∗ R) from by
      iintro ⟨H1, H2, H3⟩
      isplitl [H1 H2]
      · isplitl [H1] <;> iassumption
      iexact H3,
    show iprop((P ∗ Q) ∗ R) ⊢ iprop(P ∗ Q ∗ R) from by
      iintro ⟨⟨H1, H2⟩, H3⟩
      isplitl [H1]; · iexact H1
      isplitl [H2] <;> iassumption⟩

/-- With every transfer awaited, both buffers are whole again and every transfer's semaphores are at zero. -/
theorem at_end (c : Dev nD) :
    At (F := F) c 16 16
      ⊢ iprop((bigSep Finset.univ fun i : Fin 16 => iprop(semVal (sendCell c i) 0 ∗ semVal (recvCell c i) 0))
        ∗ (∃ g, commLoc c ↦{fullShare} g) ∗ (∃ g, stageLoc c ↦{fullShare} g) ∗ ∃ W, owes (c : Thread nD τ) 0 W) := by
  unfold At
  rw [show (bigSep Finset.univ fun i : Fin 16 => phase (F := F) c 16 16 i)
      = bigSep Finset.univ fun i : Fin 16 => iprop(iprop(semVal (sendCell c i) 0 ∗ semVal (recvCell c i) 0) ∗ ∃ f, slotPts (F := F) c i f)
      from bigSep_congr fun i _ => by
        unfold phase landed; rw [if_pos i.isLt]
        exact sep_shift _ _ _,
    show (bigSep Finset.univ fun q : Fin 4 => stageAt (F := F) c 16 16 q)
      = bigSep Finset.univ fun q : Fin 4 => iprop(∃ f, stagePts (F := F) c q f) from bigSep_congr fun q _ => by
        unfold stageAt; rw [if_neg (by omega)],
    bigSep_sep', owedFrom_end]
  iintro ⟨⟨Hs, Hc⟩, Hst, Ho⟩
  isplitl [Hs]; · iexact Hs
  isplitl [Hc]; · iapply (comm_join c); iexact Hc
  isplitl [Hst]; · iapply (stage_join c); iexact Hst
  iexact Ho

end Cert.Proof

end
-- ==== Proof.Ghost.lean ====
/- What is dealt to the devices at the start: the records of every cell, and to each device its own
   positions, the rights to pay into its neighbours' cells, and what it may expect to be paid. -/
module

public import proofs.«01_k».proof.Proof.Pieces

@[expose] public section

noncomputable section

namespace Cert.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (A : ℕ → Dev nD → Fin 4 → Vec F S1x136x128 .f32)

/-! ## Cells and rights, numbered -/

theorem csem_injective : Function.Injective csem := fun a b => by revert a b; decide +kernel
theorem kcell_injective : Function.Injective (kcell : Dev nD × CI → GSem nD τ sig) := by
  rintro ⟨c, k⟩ ⟨c', k'⟩ h
  obtain rfl : c = c' := congrArg (fun g : GSem nD τ sig => g.1.1) h
  obtain rfl : k = k' := csem_injective (congrArg Prod.snd h)
  rfl
def allCells : Finset (GSem nD τ sig) := Finset.univ.map ⟨kcell, kcell_injective⟩

/-- A device's rights: one for each neighbour at its barrier, one for each other cell. -/
abbrev TI : Type := Fin 4 ⊕ (Fin 16 ⊕ Fin 16)
abbrev rightOf (p : Dev nD × TI) : GSem nD τ sig × ℕ × Fin 4 :=
  match p.2 with
  | .inl j => (barCell p.1, 0, j)
  | .inr k => (kcell (p.1, .inr k), 0, 0)
theorem rightOf_injective : Function.Injective (rightOf : Dev nD × TI → GSem nD τ sig × ℕ × Fin 4) := by
  rintro ⟨c, k⟩ ⟨c', k'⟩ h
  have hc : c = c' := by
    have := congrArg (fun x : GSem nD τ sig × ℕ × Fin 4 => x.1.1.1) h
    rcases k with j | k <;> rcases k' with j' | k' <;> exact this
  subst hc
  rcases k with j | k <;> rcases k' with j' | k'
  · obtain rfl : j = j' := congrArg (fun x : GSem nD τ sig × ℕ × Fin 4 => x.2.2) h
    rfl
  · have : (Sum.inl () : CI) = Sum.inr k' := csem_injective (congrArg (fun x : GSem nD τ sig × ℕ × Fin 4 => x.1.2) h)
    exact absurd this (by simp)
  · have : (Sum.inr k : CI) = Sum.inl () := csem_injective (congrArg (fun x : GSem nD τ sig × ℕ × Fin 4 => x.1.2) h)
    exact absurd this (by simp)
  · have : (Sum.inr k : CI) = Sum.inr k' := csem_injective (congrArg (fun x : GSem nD τ sig × ℕ × Fin 4 => x.1.2) h)
    rw [Sum.inr.inj this]
def allRights : Finset (GSem nD τ sig × ℕ × Fin 4) := Finset.univ.map ⟨rightOf, rightOf_injective⟩

/-- The rights to pay into device `c`'s cells, -/
def rights (c : Dev nD) : sProp 𝕄 :=
  iprop((bigSep Finset.univ fun j : Fin 4 => dutyTok ER (barCell c) 0 j)
    ∗ (bigSep Finset.univ fun i : Fin 16 => dutyTok ER (sendCell c i) 0 0)
    ∗ bigSep Finset.univ fun i : Fin 16 => dutyTok ER (recvCell c i) 0 0)
/-- and the rights device `c` uses. -/
def uses (c : Dev nD) : sProp 𝕄 :=
  iprop((bigSep Finset.univ fun j : Fin 4 => dutyTok ER (barCell (peer j c)) 0 j)
    ∗ (bigSep Finset.univ fun i : Fin 16 => dutyTok ER (sendCell c i) 0 0)
    ∗ bigSep Finset.univ fun i : Fin 16 => dutyTok ER (recvCell (peer (axis i) c) i) 0 0)

def peerE (j : Fin 4) : Dev nD ≃ Dev nD := ⟨peer j, peer j, peer_peer j, peer_peer j⟩

/-- A family over devices, dealt around along an axis chosen for each member. -/
theorem dealt {I : Type} [Fintype I] (e : I → Fin 4) (X : Dev nD → I → sProp 𝕄) :
    (bigSep Finset.univ fun c : Dev nD => bigSep Finset.univ fun i : I => X c i)
      = bigSep Finset.univ fun c : Dev nD => bigSep Finset.univ fun i : I => X (peer (e i) c) i := by
  rw [bigSep_univ_comm, bigSep_univ_comm (fun c i => X (peer (e i) c) i)]
  exact bigSep_congr fun i _ => bigSep_univ_equiv (peerE (e i)) fun c => X c i

theorem rights_dealt : (bigSep Finset.univ fun c : Dev nD => (rights c : sProp 𝕄)) = bigSep Finset.univ fun c : Dev nD => uses c := by
  unfold rights uses
  rw [bigSep_sep', bigSep_sep', bigSep_sep', bigSep_sep',
    dealt (fun j => j) fun (c : Dev nD) (j : Fin 4) => (dutyTok ER (barCell c) 0 j : sProp 𝕄),
    dealt axis fun (c : Dev nD) (i : Fin 16) => (dutyTok ER (recvCell c i) 0 0 : sProp 𝕄)]

/-! ## The deal -/

/-- What the start holds for device `c`; -/
def G (c : Dev nD) : sProp 𝕄 :=
  iprop((bigSep Finset.univ fun k : CI => roundState ER (sched A) (kcell (c, k)) 0)
    ∗ (bigSep Finset.univ fun k : CI => iprop(atPos ER (kcell (c, k)) 0 ∅ 0 ∗ reached ER (kcell (c, k)) 0)) ∗ rights c)
/-- its own share, beside the records that all hold; -/
def share (c : Dev nD) : sProp 𝕄 :=
  iprop((bigSep Finset.univ fun k : CI => atPos ER (kcell (c, k)) 0 ∅ 0) ∗ uses c)
/-- and what it is dealt. -/
def G' (c : Dev nD) : sProp 𝕄 := iprop(∃ K, records A K ∗ share c)

theorem fund_all : BI.own (ER (initOf allCells allRights)) ⊢ (|==> bigSep Finset.univ (G A) : sProp 𝕄) := by
  have hX (Φ : GSem nD τ sig → sProp 𝕄) :
      bigSep allCells Φ = bigSep Finset.univ fun c : Dev nD => bigSep Finset.univ fun k : CI => Φ (kcell (c, k)) := by
    unfold allCells; rw [bigSep_map, bigSep_univ_prod]; rfl
  have hT : bigSep allRights (fun x => (dutyTok ER x.1 x.2.1 x.2.2 : sProp 𝕄)) = bigSep Finset.univ fun c : Dev nD => rights c := by
    unfold allRights; rw [bigSep_map, bigSep_univ_prod]
    refine bigSep_congr fun c _ => ?_
    unfold rights
    rw [bigSep_univ_sum, bigSep_univ_sum]; rfl
  iintro HX
  imod (Rounds.fund ER (sched A) allCells allRights) $$ HX with ⟨Hst, Hr, Hat, Htok⟩
  imodintro
  ihave Hst' := (Entails.of_eq (hX fun g => roundState ER (sched A) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

abbrev sems0 (c : Dev nD) : sProp 𝕄 :=
  Pipeline.ownSems0 (Ix := Unit) (Name := ℕ) (U := UU) (Lvl := ℕ) (Val := Elt F) (τ := τ) osem c

theorem sems0_eq (c : Dev nD) : (sems0 c : sProp 𝕄)
    = iprop((bigSep Finset.univ fun i : Fin 16 => semVal (sendCell c i) 0) ∗ bigSep Finset.univ fun i : Fin 16 => semVal (recvCell c i) 0) := by
  unfold sems0 Pipeline.ownSems0
  exact bigSep_univ_sum _
theorem barrier0_eq (c : Dev nD) : (unscopedSems0 c : sProp 𝕄) = semVal (barCell c) 0 := by
  unfold unscopedSems0; rw [bigSep_eq_bigSepL_of_eq [SemLoc.reg barSem] (by decide) (by decide)]; rfl

theorem bigSep_unit (Φ : Unit → sProp 𝕄) : bigSep Finset.univ Φ = Φ () :=
  bigSep_univ_eq_bigSepL [()] (by decide) (by decide) Φ

/-- A family over a device's cells, in parts. -/
theorem cells_eq (Φ : CI → sProp 𝕄) : bigSep Finset.univ Φ
    = iprop(Φ (.inl ()) ∗ (bigSep Finset.univ fun i : Fin 16 => Φ (.inr (.inl i))) ∗ bigSep Finset.univ fun i : Fin 16 => Φ (.inr (.inr i))) := by
  rw [bigSep_univ_sum, bigSep_univ_sum, bigSep_unit]; rfl

theorem core_alloc (c : Dev nD) :
    iprop(sems0 c ∗ unscopedSems0 c ∗ G A c)
      ⊢ |={Set.univ}=> iprop((bigSep Finset.univ fun k : CI => iprop(∃ κ : ℕ, cellInv ER (sched A) κ (kcell (c, k))))
          ∗ (bigSep Finset.univ fun k : CI => iprop(atPos ER (kcell (c, k)) 0 ∅ 0 ∗ reached ER (kcell (c, k)) 0)) ∗ rights c) := by
  unfold G
  rw [sems0_eq, barrier0_eq]
  iintro ⟨⟨HS, HV⟩, HB, Hst, Hat, Htok⟩
  ihave Hv := (Entails.of_eq (cells_eq (fun k : CI => (semVal (kcell (c, k)) 0 : sProp 𝕄))).symm) $$ [HS HV HB]
  · isplitl [HB]; · iexact HB
    isplitl [HS] <;> iassumption
  imod (show iprop((bigSep Finset.univ fun k : CI => semVal (kcell (c, k)) 0)
        ∗ bigSep Finset.univ fun k : CI => roundState ER (sched A) (kcell (c, k)) 0)
      ⊢ (|={Set.univ}=> bigSep Finset.univ fun k : CI => iprop(∃ κ : ℕ, cellInv ER (sched A) κ (kcell (c, k))) : sProp 𝕄) from by
        rw [← bigSep_sep']
        exact (bigSep_mono fun k _ => (Rounds.body_intro ER (sched A) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

theorem known_to_all {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k : CI => iprop(∃ κ : ℕ, cellInv ER (sched A) κ (kcell (c, k))))
          ∗ (bigSep Finset.univ fun k : CI => iprop(atPos ER (kcell (c, k)) 0 ∅ 0 ∗ reached ER (kcell (c, k)) 0)) ∗ rights c) : sProp 𝕄)
      ⊢ bigSep Finset.univ (G' A) := by
  rw [bigSep_sep', bigSep_sep', ← bigSep_univ_prod (fun p : Dev nD × CI => iprop(∃ κ : ℕ, cellInv ER (sched A) κ (kcell p))),
    bigSep_congr (s := Finset.univ) (fun (c : Dev nD) _ => bigSep_sep' Finset.univ (fun k : CI => (atPos ER (kcell (c, k)) 0 ∅ 0 : sProp 𝕄)) (fun k => reached ER (kcell (c, k)) 0)),
    bigSep_sep', ← bigSep_univ_prod (fun p : Dev nD × CI => (reached ER (kcell p) 0 : sProp 𝕄)), rights_dealt]
  iintro ⟨HI, ⟨Hat, #HR⟩, Htk⟩
  ihave HK := (BI.bigSep_exists_pi Finset.univ (fun (p : Dev nD × CI) (κ : ℕ) => (cellInv ER (sched A) κ (kcell p) : sProp 𝕄))) $$ HI
  icases HK with ⟨%K, #HI⟩
  iapply (known_to_all (R := records A K) (Φ := fun c => (share c : sProp 𝕄)) fun c _ => show _ ⊢ (G' A c : sProp 𝕄) from by
    unfold G'; iintro H; iexists K; iexact H)
  isplitr
  · unfold records; isplitl; · iexact HI
    iexact HR
  · unfold share
    iapply (Entails.of_eq (bigSep_sep' Finset.univ (fun c : Dev nD => bigSep Finset.univ fun k : CI => (atPos ER (kcell (c, k)) 0 ∅ 0 : sProp 𝕄)) uses).symm)
    isplitl [Hat] <;> iassumption

theorem deal_all : (bigSep Finset.univ fun c => iprop(sems0 c ∗ unscopedSems0 c ∗ G A c) : sProp 𝕄) ⊢ |={Set.univ}=> bigSep Finset.univ (G' A) :=
  ((bigSep_mono fun c _ => core_alloc A c).trans (bigSep_fupd _ _)).trans (BI.fupd_mono (regroup A))

/-! ## What a device may expect to be paid -/

theorem bar_ne (c d : Dev nD) (i : Fin 16) : barCell d ≠ recvCell c i := fun h => by
  have := congrArg Prod.snd h; cases this

theorem zero_of_not_pos {t : CellTallies nD τ sig Unit} {g : GSem nD τ sig} (h : ¬ 0 < t g ()) : t g () = 0 := Nat.eq_zero_of_not_pos h

theorem barOwed_at (d c : Dev nD) (j : Fin 4) : barOwed d j (barCell c) () = if d = peer j c then 1 else 0 := by
  unfold barOwed
  rw [tallyAt_apply]
  by_cases h : d = peer j c
  · rw [if_pos h, if_pos ⟨by rw [h, peer_peer], rfl⟩]
  · rw [if_neg h, if_neg fun ⟨e, _⟩ => h (by
      have e' : c = peer j d := congrArg (fun g : GSem nD τ sig => g.1.1) e
      rw [e', peer_peer])]

theorem O₀_bar (d c : Dev nD) : O₀ d (barCell c) ()
    = (if d = peer 0 c then 1 else 0) + (if d = peer 1 c then 1 else 0) + (if d = peer 2 c then 1 else 0) + (if d = peer 3 c then 1 else 0) := by
  unfold O₀ O₁ O₂ O₃
  simp only [Pi.add_apply, Finsupp.add_apply, barOwed_at]
  rw [zero_of_not_pos (t := owedFrom d 0) fun h => by obtain ⟨i, _, e⟩ := owedFrom_pos h; exact bar_ne _ _ i e]
  omega
theorem O₀_recv (d c : Dev nD) (n : Fin 16) : O₀ d (recvCell c n) () = if d = peer (axis n) c then N else 0 := by
  have hb (j : Fin 4) : barOwed d j (recvCell c n) () = 0 :=
    zero_of_not_pos fun h => bar_ne _ _ n (tally_pos h).symm
  unfold O₀ O₁ O₂ O₃
  simp only [Pi.add_apply, Finsupp.add_apply, hb, Nat.add_zero]
  unfold owedFrom
  rw [Finset.sum_apply, Finsupp.finset_sum_apply, Finset.sum_eq_single n]
  · rw [tallyAt_apply]
    by_cases h : d = peer (axis n) c
    · rw [if_pos h, if_pos ⟨by rw [h, peer_peer], rfl⟩]
    · rw [if_neg h, if_neg fun ⟨e, _⟩ => h (by
        have e' : c = peer (axis n) d := congrArg (fun g : GSem nD τ sig => g.1.1) e
        rw [e', peer_peer])]
  · intro i _ hi
    refine zero_of_not_pos (t := tallyAt _ () N) fun h => hi ?_
    have e : (Sum.inr (Sum.inr n) : CI) = Sum.inr (Sum.inr i) := csem_injective (congrArg Prod.snd (tally_pos h))
    exact (Sum.inr.inj (Sum.inr.inj e)).symm
  · intro h
    exact absurd (Finset.mem_filter.mpr ⟨Finset.mem_univ n, Nat.zero_le _⟩) h

theorem due_bar (c : Dev nD) :
    tallyOn (barCell c) (launchCredit (Pipeline.owing O₀) 0 (barCell c)) = (tallyAt (barCell c) () 4 : CellTallies nD τ sig Unit) := by
  unfold tallyAt; refine congrArg _ (Finsupp.ext fun u => ?_); cases u
  rw [Pipeline.launchCredit_owing, Finsupp.single_eq_same, Finset.sum_congr rfl fun d _ => O₀_bar d c]
  simp only [Finset.sum_add_distrib, Finset.sum_ite_eq', Finset.mem_univ, if_true]
theorem due_recv (c : Dev nD) (n : Fin 16) :
    tallyOn (recvCell c n) (launchCredit (Pipeline.owing O₀) 0 (recvCell c n)) = (tallyAt (recvCell c n) () N : CellTallies nD τ sig Unit) := by
  unfold tallyAt; refine congrArg _ (Finsupp.ext fun u => ?_); cases u
  rw [Pipeline.launchCredit_owing, Finsupp.single_eq_same, Finset.sum_congr rfl fun d _ => O₀_recv d c n,
    Finset.sum_ite_eq' Finset.univ (peer (axis n) c) fun _ => N, if_pos (Finset.mem_univ _)]

def recvSlot : Fin 16 ↪ SemLoc sig :=
  ⟨fun n => .dma (recvSem n), fun a b h => by
    have e : (Sum.inr (Sum.inr a) : CI) = Sum.inr (Sum.inr b) := csem_injective h
    exact Sum.inr.inj (Sum.inr.inj e)⟩

theorem dues (c : Dev nD) :
    (Pipeline.launchCred O₀ c : sProp 𝕄)
      ⊢ iprop(cred (tallyAt (barCell c) () 4) ∗ bigSep Finset.univ fun i : Fin 16 => cred (tallyAt (recvCell c i) () N)) := by
  unfold Pipeline.launchCred
  rw [bigSep_univ_at _ (SemLoc.reg barSem), due_bar]
  refine sep_mono_right ?_
  have e : (bigSep Finset.univ fun i : Fin 16 => (cred (tallyAt (recvCell c i) () N) : sProp 𝕄))
      = bigSep (Finset.univ.map recvSlot) fun s : SemLoc sig =>
          cred (tallyOn ((c : Thread nD τ), s) (launchCredit (Pipeline.owing O₀) 0 ((c : Thread nD τ), s))) := by
    rw [bigSep_map]
    refine bigSep_congr fun n _ => ?_
    rw [← due_recv]; rfl
  rw [e]
  refine bigSep_subset fun s hs => ?_
  obtain ⟨n, _, rfl⟩ := Finset.mem_map.mp hs
  exact Finset.mem_erase.mpr ⟨fun h => (by cases h), Finset.mem_univ _⟩

/-- A device's share, with its buffers and what it expects, is what it brings to the barrier. -/
theorem share_before (c : Dev nD) :
    iprop(share c ∗ cred (tallyAt (barCell c) () 4) ∗ (bigSep Finset.univ fun i : Fin 16 => cred (tallyAt (recvCell c i) () N))
      ∗ (bigSep Finset.univ fun n : Fin 16 => iprop(∃ f, slotPts (F := F) c n f))
      ∗ (bigSep Finset.univ fun q : Fin 4 => iprop(∃ f, stagePts (F := F) c q f))
      ∗ ∃ W, owes (c : Thread nD τ) (O₀ c) W) ⊢ (before c : sProp 𝕄) := by
  unfold share uses before issue ends
  rw [cells_eq, bigSep_fin4]
  simp only [bigSep_sep']
  iintro ⟨⟨⟨HaB, HaS, HaV⟩, HtB, HtS, HtV⟩, HcB, HcV, Hc, Hs, Ho⟩
  isplitl [HtS HtV HaS HaV HcV]
  · isplitl [HtS HtV]
    · isplitl [HtS] <;> iassumption
    isplitl [HaS]; · iexact HaS
    isplitl [HaV] <;> iassumption
  isplitl [Hc]; · iexact Hc
  isplitl [Hs]; · iexact Hs
  isplitl [HtB]; · iexact HtB
  isplitl [HaB]; · iexact HaB
  isplitl [HcB] <;> iassumption

end Cert.Proof

end
-- ==== Proof.Launch.lean ====
/- The program on all sixteen devices: what it does with memory, from any memory it starts with. -/
module

public import proofs.«01_k».proof.Proof.Ghost
public import proofs.«01_k».proof.Proof.Gen.KernelIdeal.Points
public import Idealize.ShloMosaic.Lib.Pipeline.CollectiveSegs

@[expose] public section

noncomputable section

namespace Cert.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

def s₀ : MemSt nD τ sig (Elt F) := ⟨m, fun _ => 0, ρ⟩

/-- What device `c` is given: its arrays, staged whole. -/
def inputs (c : Dev nD) : Inputs F where
  x := (win0_0.blk (0 : Fin 1)).view.read (Elt F) ((s₀ m ρ).mem ((c : Thread nD τ).loc main_arg0))
  wq := (win0_1.blk (0 : Fin 1)).view.read (Elt F) ((s₀ m ρ).mem ((c : Thread nD τ).loc main_arg1))
  k := (win0_2.blk (0 : Fin 1)).view.read (Elt F) ((s₀ m ρ).mem ((c : Thread nD τ).loc main_arg2))
  v := (win0_3.blk (0 : Fin 1)).view.read (Elt F) ((s₀ m ρ).mem ((c : Thread nD τ).loc main_arg3))
  wo := (win0_4.blk (0 : Fin 1)).view.read (Elt F) ((s₀ m ρ).mem ((c : Thread nD τ).loc main_arg4))

abbrev AA : ℕ → Dev nD → Fin 4 → Vec F S1x136x128 .f32 := sums (inputs m ρ)

/-! ## The state around the body -/

def start (c : Dev nD) : sProp 𝕄 :=
  iprop(G' (AA m ρ) c ∗ cred (tallyAt (barCell c) () 4) ∗ (bigSep Finset.univ fun i : Fin 16 => cred (tallyAt (recvCell c i) () N)) ∗ levAts L lv)

abbrev accLoc (c : Dev nD) : Loc nD τ sig := (c : Thread nD τ).loc cc0_scratch0

def Φ₀ (c : Dev nD) : sProp 𝕄 :=
  iprop(start m ρ c ∗ (∃ f : Buf (Elt F) (accLoc c), accLoc c ↦{fullShare} f)
    ∗ (∃ f : Buf (Elt F) (stageLoc c), stageLoc c ↦{fullShare} f) ∗ ∃ f : Buf (Elt F) (commLoc c), commLoc c ↦{fullShare} f)
def Φ₁ (c : Dev nD) : sProp 𝕄 :=
  iprop((bigSep Finset.univ fun i : Fin 16 => iprop(semVal (sendCell c i) 0 ∗ semVal (recvCell c i) 0)) ∗ semVal (barCell c) 0
    ∗ (∃ f : Buf (Elt F) (accLoc c), accLoc c ↦{fullShare} f)
    ∗ (∃ f : Buf (Elt F) (stageLoc c), stageLoc c ↦{fullShare} f) ∗ ∃ f : Buf (Elt F) (commLoc c), commLoc c ↦{fullShare} f)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => (inputs m ρ c).x
    | ⟨1, _⟩ => (inputs m ρ c).wq
    | ⟨2, _⟩ => (inputs m ρ c).k
    | ⟨3, _⟩ => (inputs m ρ c).v
    | ⟨4, _⟩ => (inputs m ρ c).wo
    | ⟨5, _⟩ => result (inputs m ρ) c
  Φ t := match t with
    | ⟨0, _⟩ => Φ₀ m ρ c
    | ⟨_ + 1, _⟩ => Φ₁ c
  q _ := fullShare
  owed t := match t with
    | ⟨0, _⟩ => O₀ c
    | ⟨_ + 1, _⟩ => 0

theorem holds_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev staged (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem staged_of_holds (c : Dev nD) (b : Ref sig .tc) (X : b.ty.Contents (Elt F)) : (Holds c b X : sProp 𝕄) ⊢ staged c b X := by
  unfold Holds
  iintro H
  iexists X
  isplitr; · (ipureintro; rfl)
  iexact H

def bodyPre (c : Dev nD) : sProp 𝕄 :=
  iprop(Φ₀ m ρ c ∗ (dats m ρ 0 c).owesAt () t0_0.castSucc
    ∗ (∃ d, staged c cc0_stg0_0 ((dats m ρ 0 c).before (0 : Fin 6) t0_0 d))
    ∗ (∃ d, staged c cc0_stg1_0 ((dats m ρ 0 c).before (1 : Fin 6) t0_0 d))
    ∗ (∃ d, staged c cc0_stg2_0 ((dats m ρ 0 c).before (2 : Fin 6) t0_0 d))
    ∗ (∃ d, staged c cc0_stg3_0 ((dats m ρ 0 c).before (3 : Fin 6) t0_0 d))
    ∗ (∃ d, staged c cc0_stg4_0 ((dats m ρ 0 c).before (4 : Fin 6) t0_0 d))
    ∗ (∃ d, staged c cc0_stg5_0 ((dats m ρ 0 c).before (5 : Fin 6) t0_0 d)))

def bodyPost (c : Dev nD) : sProp 𝕄 :=
  iprop(Φ₁ c ∗ (dats m ρ 0 c).owesAt () t0_0.succ
    ∗ staged c cc0_stg0_0 (inputs m ρ c).x ∗ staged c cc0_stg1_0 (inputs m ρ c).wq ∗ staged c cc0_stg2_0 (inputs m ρ c).k
    ∗ staged c cc0_stg3_0 (inputs m ρ c).v ∗ staged c cc0_stg4_0 (inputs m ρ c).wo ∗ staged c cc0_stg5_0 (result (inputs m ρ) c))

theorem body_runs (c : Dev nD) : bodyPre m ρ c ⊢ runs c (bodyAt0 (F := F) t0_0) (fun _ => bodyPost m ρ c) := by
  unfold bodyPre Φ₀ start G'
  iintro ⟨⟨⟨⟨%K, #HR, Hs⟩, HcB, HcV, #HL⟩, ⟨%fa, Hacc⟩, ⟨%fs, Hst⟩, ⟨%fc, Hco⟩⟩, Ho,
    ⟨%d0, %g0, %h0, H0⟩, ⟨%d1, %g1, %h1, H1⟩, ⟨%d2, %g2, %h2, H2⟩, ⟨%d3, %g3, %h3, H3⟩, ⟨%d4, %g4, %h4, H4⟩, ⟨%d5, %g5, %h5, H5⟩⟩
  have e0 : g0 = (inputs m ρ c).x := by rw [h0]; unfold Dat.before; rw [if_pos (fetch0_0 t0_0)]; rfl
  have e1 : g1 = (inputs m ρ c).wq := by rw [h1]; unfold Dat.before; rw [if_pos (fetch0_1 t0_0)]; rfl
  have e2 : g2 = (inputs m ρ c).k := by rw [h2]; unfold Dat.before; rw [if_pos (fetch0_2 t0_0)]; rfl
  have e3 : g3 = (inputs m ρ c).v := by rw [h3]; unfold Dat.before; rw [if_pos (fetch0_3 t0_0)]; rfl
  have e4 : g4 = (inputs m ρ c).wo := by rw [h4]; unfold Dat.before; rw [if_pos (fetch0_4 t0_0)]; rfl
  subst e0 e1 e2 e3 e4
  unfold Dat.owesAt Pipeline.owesWithin
  icases Ho with ⟨%W, %hW, HO⟩
  rw [show (dats m ρ 0 c).owed t0_0.castSucc = O₀ c from rfl]
  ihave Hc := (comm_split c fc) $$ Hco
  ihave Hq := (stage_split c fs) $$ Hst
  ihave Hb := (share_before (F := F) c) $$ [Hs HcB HcV Hc Hq HO]
  · isplitl [Hs]; · iexact Hs
    isplitl [HcB]; · iexact HcB
    isplitl [HcV]; · iexact HcV
    isplitl [Hc]; · iexact Hc
    isplitl [Hq]; · iexact Hq
    iexists W; iexact HO
  iapply (body_spec (inputs m ρ) K c (fun q => accRead q fa) g5 _) $$ [Hb Hacc H0 H1 H2 H3 H4 H5]
  · isplitr; · iexact HR
    isplitr; · iexact HL
    isplitl [Hb]; · iexact Hb
    isplitl [Hacc]
    · unfold AccIs; iexists fa; isplitr; · (ipureintro; rfl)
      iexact Hacc
    isplitl [H0 H1 H2 H3 H4]
    · unfold Given Holds
      isplitl [H0]; · iexact H0
      isplitl [H1]; · iexact H1
      isplitl [H2]; · iexact H2
      isplitl [H3] <;> iassumption
    unfold Holds
    iexact H5
  unfold Given
  iintro ⟨Hat, Hz, ⟨%T, Hacc⟩, ⟨H0, H1, H2, H3, H4⟩, H5⟩
  ihave He := (at_end (F := F) c) $$ Hat
  icases He with ⟨Hsem, Hc, Hq, ⟨%W', HO⟩⟩
  unfold bodyPost Φ₁ Dat.owesAt Pipeline.owesWithin
  rw [show (dats m ρ 0 c).owed t0_0.succ = 0 from rfl]
  isplitl [Hsem Hz Hacc Hc Hq]
  · isplitl [Hsem]; · iexact Hsem
    isplitl [Hz]; · iexact Hz
    isplitl [Hacc]
    · unfold AccIs
      icases Hacc with ⟨%f, %hf, Hacc⟩
      iexists f; iexact Hacc
    isplitl [Hq] <;> iassumption
  isplitl [HO]
  · iexists W'
    isplitr; · ipureintro; exact fun _ _ => Or.inl trivial
    iexact HO
  isplitl [H0]; · iapply (staged_of_holds c cc0_stg0_0 _); iexact H0
  isplitl [H1]; · iapply (staged_of_holds c cc0_stg1_0 _); iexact H1
  isplitl [H2]; · iapply (staged_of_holds c cc0_stg2_0 _); iexact H2
  isplitl [H3]; · iapply (staged_of_holds c cc0_stg3_0 _); iexact H3
  isplitl [H4]; · iapply (staged_of_holds c cc0_stg4_0 _); iexact H4
  iapply (staged_of_holds c cc0_stg5_0 _); iexact H5

set_option maxRecDepth 16000 in
theorem body_obligation (c : Dev nD) : BodyObligation (dats (F := F) m ρ 0 c) (defs₀ (F := F)) 𝒱₀ () Set.univ := fun t => by
  rw [fin_N0 t]
  rw [show (bigSep (Finset.univ : Finset (Fin cfg0.W)) : (Fin cfg0.W → sProp 𝕄) → sProp 𝕄) = fun Φ => _ from funext fun Φ => bigSep_W0 Φ]
  simp only [holds_eq]
  exact body_runs m ρ c

/-! ## The whole run -/

theorem own_sems : Pipeline.OwnSemFacts cfg0.spec osem := by decide +kernel

theorem share_full (c : Dev nD) (w : Fin cfg0.W) : (dats m ρ 0 c).share w = fullShare := by unfold Dat.share; split <;> rfl

def u₀ : UU :=
  (initOf (Pipeline.cells cfgs cellOf_inj) (Pipeline.launchToks cfgs cellOf_inj), initOf allCells allRights)

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (AA m ρ) c)
      ⊢ |={Set.univ}=> iprop(start m ρ c ∗ emp) := by
  iintro ⟨-, Hlev, Hcr, -, HG⟩
  ihave Hc := (dues (F := F) c) $$ Hcr
  icases Hc with ⟨H1, HN⟩
  imodintro
  unfold start
  isplitl
  · isplitl [HG]; · iexact HG
    isplitl [H1]; · iexact H1
    isplitl [HN]; · iexact HN
    iexact Hlev
  · iempintro

theorem enter (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, Hr⟩
  isplitl [Hs]; · iexact Hs
  iexact Hr

theorem leave (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, barrier0_eq]
  rw [show (Pipeline.ownSems0 osem c : sProp 𝕄) = _ from sems0_eq (F := F) c]
  unfold Φ₁
  rw [bigSep_sep']
  iintro ⟨Hs, Hz, Hr⟩
  isplitl [Hz]; · iexact Hz
  isplitl [Hs]; · iexact Hs
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-- What window `w`'s array holds at the end. -/
def final (c : Dev nD) (w : Fin cfg0.W) : Buf (Elt F) ((cfg0.win w).arr.view.loc (c : Thread nD τ)) := (dats m ρ 0 c).arrAt w cfg0.N

def Ends : PUnit × MemSt nD τ sig (Elt F) → Prop := fun r =>
  ∀ c : Dev nD, ∀ w : Fin cfg0.W, r.2.mem ((cfg0.win w).arr.view.loc (c : Thread nD τ)) = final m ρ c w

set_option maxRecDepth 8000 in
/-- From any memory with every counter at zero, the program ends with the arrays at `final` and every counter at zero. -/
theorem run_main : θ_run defs (onTc (τ := τ) (main (F := F))) (s₀ m ρ) (fun r => Ends m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ own_sems (Pipeline.PreFacts.none _) EP defs₀ 𝒱₀ m ρ main
    (hmain := fun _ => rfl)
    (hbody := body_obligation m ρ) (hne := block_pos0) (harr := arr_whole0) (hstage := stage_whole0) (hshare := share_full m ρ)
    (hdistinct := winFacts0.arr_inj)
    (O₀ := O₀) (howed₀ := fun _ => rfl) (howedN := fun _ => rfl)
    (L := L) (lv := lv) (hL := L_of_ne) (hwaits := waits m ρ)
    (G := G (AA m ρ)) (G' := G' (AA m ρ)) (u₀ := u₀)
    (hu₀ := by
      unfold u₀
      iintro Hu
      ihave H := (ownU_pair _ _) $$ Hu
      icases H with ⟨HP, HX⟩
      imod (fund_all (AA m ρ)) $$ HX with HG
      imodintro
      isplitl [HP] <;> iassumption)
    (hglob := deal_all (AA m ρ))
    (hA := fun _ _ => rfl) (hpf := fun _ k => k.elim0)
    (X := start m ρ) (Y := fun c => unscopedSems0 c) (Z := fun _ => iprop(emp))
    (hX := start_intro m ρ) (hin := enter m ρ) (hout := leave m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The arrays given are as they were. -/
theorem final_in (c : Dev nD) (w : Fin cfg0.W) (h : (cfg0.win w).isOut = false) : final m ρ c w = (s₀ m ρ).mem ((cfg0.win w).arr.view.loc (c : Thread nD τ)) :=
  (dats (F := F) m ρ 0 c).arrAt_in w h _

end Cert.Proof

end
-- ==== Proof.Result.lean ====
/- What the arrays hold at the end: those given are as they were, the result's is the body's value. -/
module

public import proofs.«01_k».proof.Proof.Launch

@[expose] public section

noncomputable section

namespace Cert.Proof

open Cert.KernelIdeal Cert.KernelIdeal.Gen
open Idealize.ShloMosaic
open Idealize.ShloMosaic.TcCoe
open Idealize.SL.Sem
open Idealize.ShloMosaic.Pipeline (Dat Cfg Window)

variable {F : FTy → Type} [FloatOps F]
variable (m : (ℓ : Loc nD τ sig) → Buf (Elt F) ℓ) (ρ : Dev nD → PrngReg)

/-- A device's five arrays, as they lie in its memory. -/
def arrays (c : Dev nD) : Inputs F where
  x := m ((c : Thread nD τ).loc main_arg0)
  wq := m ((c : Thread nD τ).loc main_arg1)
  k := m ((c : Thread nD τ).loc main_arg2)
  v := m ((c : Thread nD τ).loc main_arg3)
  wo := m ((c : Thread nD τ).loc main_arg4)

theorem inputs_eq : inputs m ρ = arrays m := by
  funext c
  have h0 := Memref.read_access_unit_zero (Elt F) main_arg0 (off := fun a => win0_0.index (0 : Fin 1) a * main_arg0.ty.shape.size a)
    (funext fun a => by fin_cases a <;> decide) (fun a => by fin_cases a <;> decide) (m ((c : Thread nD τ).loc main_arg0))
  have h1 := Memref.read_access_unit_zero (Elt F) main_arg1 (off := fun a => win0_1.index (0 : Fin 1) a * main_arg1.ty.shape.size a)
    (funext fun a => by fin_cases a <;> decide) (fun a => by fin_cases a <;> decide) (m ((c : Thread nD τ).loc main_arg1))
  have h2 := Memref.read_access_unit_zero (Elt F) main_arg2 (off := fun a => win0_2.index (0 : Fin 1) a * main_arg2.ty.shape.size a)
    (funext fun a => by fin_cases a <;> decide) (fun a => by fin_cases a <;> decide) (m ((c : Thread nD τ).loc main_arg2))
  have h3 := Memref.read_access_unit_zero (Elt F) main_arg3 (off := fun a => win0_3.index (0 : Fin 1) a * main_arg3.ty.shape.size a)
    (funext fun a => by fin_cases a <;> decide) (fun a => by fin_cases a <;> decide) (m ((c : Thread nD τ).loc main_arg3))
  have h4 := Memref.read_access_unit_zero (Elt F) main_arg4 (off := fun a => win0_4.index (0 : Fin 1) a * main_arg4.ty.shape.size a)
    (funext fun a => by fin_cases a <;> decide) (fun a => by fin_cases a <;> decide) (m ((c : Thread nD τ).loc main_arg4))
  unfold inputs arrays s₀
  congr 1

theorem args_kept (r : PUnit × MemSt nD τ sig (Elt F)) (h : Ends m ρ r) (c : Dev nD) :
    r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4) :=
  ⟨(h c (0 : Fin 6)).trans (final_in m ρ c (0 : Fin 6) rfl), (h c (1 : Fin 6)).trans (final_in m ρ c (1 : Fin 6) rfl),
    (h c (2 : Fin 6)).trans (final_in m ρ c (2 : Fin 6) rfl), (h c (3 : Fin 6)).trans (final_in m ρ c (3 : Fin 6) rfl),
    (h c (4 : Fin 6)).trans (final_in m ρ c (4 : Fin 6) rfl)⟩

/-- A run ends with every array given as it was, and every counter at zero. -/
theorem frame : θ_run defs (onTc (τ := τ) (main (F := F))) ⟨m, fun _ => 0, ρ⟩ (fun r =>
    (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
    ∧ r.2.sem = fun _ => 0) :=
  (θ_run defs _ _).mono (fun r h => ⟨fun c => args_kept m ρ r h.1 c, h.2⟩) (run_main m ρ)

/-- The result's one block, read back, is what the body left. -/
theorem final_block (c : Dev nD) :
    (win0_5.blk (0 : Fin 1)).view.read (Elt F) (final m ρ c (5 : Fin 6)) = result (inputs m ρ) c := by
  unfold final
  rw [show cfg0.N = ((0 : Fin 1) : Fin cfg0.N).val + 1 from rfl, (dats m ρ 0 c).arrAt_succ (5 : Fin 6) (0 : Fin 1)]
  rw [show (cfg0.win (5 : Fin 6)).flush (0 : Fin 1) = true from by decide, if_pos rfl]
  exact View.read_write_univ _ _

theorem result_kept (r : PUnit × MemSt nD τ sig (Elt F)) (h : Ends m ρ r) (c : Dev nD) :
    r.2.mem ((c : Thread nD τ).loc main_v1) = result (arrays m) c := by
  have hb := final_block m ρ c
  have hr := Memref.read_access_unit_zero (Elt F) main_v1 (off := fun a => win0_5.index (0 : Fin 1) a * main_v1.ty.shape.size a)
    (funext fun a => by fin_cases a <;> decide) (fun a => by fin_cases a <;> decide) (final m ρ c (5 : Fin 6))
  rw [inputs_eq] at hb
  exact (h c (5 : Fin 6)).trans (hr.symm.trans hb)

end Cert.Proof

end
-- ==== Proof.SameText.lean ====
/- The kernel over bit patterns and the kernel over the extended reals are one text: the same tables, at any
   float values. So the run of the one is the run of the other. -/
module

public import proofs.«01_k».proof.Proof.Result
public import proofs.«01_k».proof.Proof.Gen.Kernel

@[expose] public section

namespace Cert.Proof

open Idealize.ShloMosaic Idealize.SL.Sem

variable {F : FTy → Type} [FloatOps F]

set_option maxRecDepth 65536 in
theorem same_body :
    @Cert.Kernel.cc0_body F _ Cert.Kernel.Gen.facts = @Cert.KernelIdeal.cc0_body F _ Cert.KernelIdeal.Gen.facts := rfl

theorem same_defs₀ : Cert.Kernel.defs₀ (F := F) = Cert.KernelIdeal.defs₀ := by
  have h := @same_body F _
  unfold Cert.Kernel.defs₀ Cert.KernelIdeal.defs₀
  congr 1
  funext l a
  match l with
  | 0 => rw [h]

theorem same_defs : Cert.Kernel.defs (F := F) = Cert.KernelIdeal.defs :=
  congrArg (Pipeline.defs Cert.KernelIdeal.pcfgs) same_defs₀

end Cert.Proof

end
-- ==== Proof.Mask.lean ====
/- Which keys a query attends to: the block of the query, the first block, and every third diagonal. The integer
   operations on either side, carried out word by word, say just that. -/
module

public import proofs.«01_k».proof.Proof.Program
public import Idealize.ShloMosaic.Lib.Pointwise

@[expose] public section

noncomputable section

namespace Cert.Proof

open Idealize.ShloMosaic Idealize.ShloMosaic.TcCoe
open Cert.KernelIdeal Cert.KernelIdeal.Gen

/-- Query `i` attends to key `j`. -/
def attends (i j : ℕ) : Bool := i / 64 == j / 64 || j / 64 == 0 || (i / 64 + j / 64) % 3 == 0

/-- The quotient by 64, rounded down, as the kernel forms it. -/
def floorWord (n : BitVec 32) : BitVec 32 :=
  Scalar.select
    (Scalar.andi
      (IntOp.cmpi .ne
        (IntOp.subi (BitVec.setWidth 32 (IntOp.cmpi .sgt n 0#32)) (BitVec.setWidth 32 (IntOp.cmpi .slt n 0#32)))
        (IntOp.subi (BitVec.setWidth 32 (IntOp.cmpi .sgt 64#32 0#32)) (BitVec.setWidth 32 (IntOp.cmpi .slt 64#32 0#32))))
      (IntOp.cmpi .ne (IntOp.remsi .vector n 64#32) 0#32))
    (IntOp.subi (IntOp.divsi .vector n 64#32) 1#32) (IntOp.divsi .vector n 64#32)

/-- The test on the two block numbers. -/
def meetWord (a b : BitVec 32) : BitVec 1 :=
  let d : BitVec 32 := Scalar.select (IntOp.cmpi .eq 3#32 0#32) 1#32 3#32
  let r : BitVec 32 := IntOp.remsi .vector (IntOp.addi a b) d
  IntOp.ori (IntOp.ori (IntOp.cmpi .eq a b) (IntOp.cmpi .eq b 0#32))
    (IntOp.cmpi .eq
      (Scalar.select
        (IntOp.andi (IntOp.xori (IntOp.cmpi .slt r 0#32) (IntOp.cmpi .slt d 0#32)) (IntOp.cmpi .ne r 0#32))
        (IntOp.addi r d) r) 0#32)

theorem maskOf_words (c : Dev nD) (i j : Fin 128) :
    maskOf c (ix2 i j) = meetWord (floorWord (BitVec.ofNat 32 i.val))
      (IntOp.addi (floorWord (BitVec.ofNat 32 j.val))
        (Scalar.muli 2#32 (Scalar.remsi (Scalar.divsi (Dev.word c) 1#32) 16#32))) := by
  pointwise [maskOf, k0_pay5, k0_pay2, k0_pay3, k0_pay4]
  rfl

theorem floorWord_lt (n : Fin 2048) : floorWord (BitVec.ofNat 32 n.val) = BitVec.ofNat 32 (n.val / 64) := by
  revert n; decide +kernel

theorem meetWord_lt (a : Fin 2) (b : Fin 32) :
    meetWord (BitVec.ofNat 32 a.val) (BitVec.ofNat 32 b.val)
      = if a.val = b.val ∨ b.val = 0 ∨ (a.val + b.val) % 3 = 0 then 1#1 else 0#1 := by
  revert a b; decide +kernel

theorem shift_word (c : Dev nD) (b : Fin 2) :
    IntOp.addi (BitVec.ofNat 32 b.val) (Scalar.muli 2#32 (Scalar.remsi (Scalar.divsi (Dev.word c) 1#32) 16#32))
      = BitVec.ofNat 32 (b.val + 2 * c.val) := by
  revert b c; decide +kernel

/-- The kernel's mask on device `c`, whose keys begin at `128 c`. -/
theorem maskOf_apply (c : Dev nD) (i j : Fin 128) :
    maskOf c (ix2 i j) = if attends i.val (128 * c.val + j.val) then 1#1 else 0#1 := by
  have hc : c.val < 16 := c.isLt
  rw [maskOf_words, floorWord_lt ⟨i.val, by omega⟩, floorWord_lt ⟨j.val, by omega⟩]
  rw [shift_word c ⟨j.val / 64, by omega⟩, meetWord_lt ⟨i.val / 64, by omega⟩ ⟨j.val / 64 + 2 * c.val, by omega⟩]
  have e : (128 * c.val + j.val) / 64 = j.val / 64 + 2 * c.val := by omega
  simp only [attends, e, Bool.or_eq_true, beq_iff_eq, or_assoc]

end Cert.Proof

end
-- ==== Proof.Tile.lean ====
/- What one device's tile holds over the extended reals: each head's weighted values and its sums of weights. -/
module

public import proofs.«01_k».proof.Proof.Body
public import proofs.«01_k».proof.Proof.Mask
public import Idealize.ShloMosaic.Lib.Pointwise

@[expose] public section

noncomputable section

namespace Cert.Proof

open Idealize.ShloMosaic Idealize.ShloMosaic.TcCoe Idealize.ShloMosaic.Pointwise
open Cert.KernelIdeal Cert.KernelIdeal.Gen

/-- The scale of the scores. -/
def eighth : EReal := Ideal.ofBits .f32 0x3E000000#32

/-- A query is a row of `x` times a column of the query weights. -/
theorem queries_apply (x : Vec Ideal S1x128x512 .f32) (wq : Vec Ideal S512x256 .f32) (r : Fin 128) (l : Fin 256) :
    queries x wq (ix2 r l) = ∑ d : Fin 512, x (ix3 0 r d) * wq (ix2 d l) := by
  pointwise [queries]

/-- A weight is the exponential of an eighth of the product of a query and a key, or nothing where the mask is off. -/
theorem weights_apply (mask : IVec S128x128 1) (qv : FVec Ideal S128x256 .f32) (h : Fin 4) (k : Vec Ideal S1x128x1x64 .f32)
    (r j : Fin 128) :
    weights mask qv h k (ix2 r j) = if mask (ix2 r j) = 1#1 then
      Ideal.exp ((∑ e : Fin 64, qv (ix2 r ⟨64 * h.val + e.val, by omega⟩) * k (ix4 0 j 0 e)) * eighth) else 0 := by
  unfold eighth
  fin_cases h <;> pointwise [weights] <;> rfl

theorem headOut_apply (w : FVec Ideal S128x128 .bf16) (v : Vec Ideal S1x128x1x64 .f32) (r : Fin 128) (d : Fin 64) :
    headOut w v (ix3 0 r d) = ∑ j : Fin 128, w (ix2 r j) * v (ix4 0 j 0 d) := by
  pointwise [headOut]

theorem headSum_apply (w : FVec Ideal S128x128 .bf16) (r : Fin 128) :
    headSum w (ix3 0 0 r) = ∑ j : Fin 128, w (ix2 r j) := by
  pointwise [headSum, k0_pay6]

namespace Inputs

variable (X : Inputs Ideal)

/-- The entries of a device's arrays. -/
def xAt (b : Fin 2) (r : Fin 128) (d : Fin 512) : EReal := (X.x : S2x128x512.Idx → EReal) (ix3 b r d)
def wqAt (d : Fin 512) (l : Fin 256) : EReal := (X.wq : S512x256.Idx → EReal) (ix2 d l)
def kAt (b : Fin 2) (j : Fin 128) (h : Fin 4) (e : Fin 64) : EReal := (X.k : S2x128x4x64.Idx → EReal) (ix4 b j h e)
def vAt (b : Fin 2) (j : Fin 128) (h : Fin 4) (e : Fin 64) : EReal := (X.v : S2x128x4x64.Idx → EReal) (ix4 b j h e)
def woAt (l : Fin 256) (n : Fin 512) : EReal := (X.wo : S256x512.Idx → EReal) (ix2 l n)

theorem read_x (b : Fin 2) (r : Fin 128) (d : Fin 512) : (mx.access (rX b)).read (Elt Ideal) X.x (ix3 0 r d) = X.xAt b r d := by
  show X.x ((rX b).emb (ix3 0 r d)) = X.x (ix3 b r d)
  congr 1
  funext a
  apply Fin.ext
  match a with
  | 0 => rfl
  | 1 => show 0 + 1 * r.val = r.val; omega
  | 2 => show 0 + 1 * d.val = d.val; omega

theorem read_wq (d : Fin 512) (l : Fin 256) : (mWq.access rWq).read (Elt Ideal) X.wq (ix2 d l) = X.wqAt d l := by
  show X.wq (rWq.emb (ix2 d l)) = X.wq (ix2 d l)
  congr 1
  funext a
  apply Fin.ext
  match a with
  | 0 => show 0 + 1 * d.val = d.val; omega
  | 1 => show 0 + 1 * l.val = l.val; omega

theorem emb_kv (b : Fin 2) (h : Fin 4) (j : Fin 128) (e : Fin 64) : (rKV b h).emb (ix4 0 j 0 e) = (ix4 b j h e : S2x128x4x64.Idx) := by
  funext a
  apply Fin.ext
  match a with
  | 0 => rfl
  | 1 => show 0 + 1 * j.val = j.val; omega
  | 2 => rfl
  | 3 => show 0 + 1 * e.val = e.val; omega

theorem read_k (b : Fin 2) (h : Fin 4) (j : Fin 128) (e : Fin 64) :
    (mK.access (rKV b h)).read (Elt Ideal) X.k (ix4 0 j 0 e) = X.kAt b j h e :=
  congrArg X.k (emb_kv b h j e)
theorem read_v (b : Fin 2) (h : Fin 4) (j : Fin 128) (e : Fin 64) :
    (mV.access (rKV b h)).read (Elt Ideal) X.v (ix4 0 j 0 e) = X.vAt b j h e :=
  congrArg X.v (emb_kv b h j e)

theorem read_wo (q : Fin 4) (l : Fin 128) (n : Fin 512) :
    (mWo.access (rWo q)).read (Elt Ideal) X.wo (ix2 l n) = X.woAt ⟨128 * qh q + l.val, by simp only [qh]; omega⟩ n := by
  show X.wo ((rWo q).emb (ix2 l n)) = X.wo (ix2 ⟨128 * qh q + l.val, by simp only [qh]; omega⟩ n)
  congr 1
  funext a
  apply Fin.ext
  match a with
  | 0 => show 128 * qh q + 1 * l.val = 128 * qh q + l.val; omega
  | 1 => show 0 + 1 * n.val = n.val; omega

/-- A query entry, a score, and the weight of a key. -/
def query (b : Fin 2) (r : Fin 128) (l : Fin 256) : EReal := ∑ d : Fin 512, X.xAt b r d * X.wqAt d l
def score (b : Fin 2) (h : Fin 4) (r j : Fin 128) : EReal :=
  (∑ e : Fin 64, X.query b r ⟨64 * h.val + e.val, by omega⟩ * X.kAt b j h e) * eighth
def weight (c : Dev nD) (b : Fin 2) (h : Fin 4) (r j : Fin 128) : EReal :=
  if attends r.val (128 * c.val + j.val) then Ideal.exp (X.score b h r j) else 0

theorem qs_apply (b : Fin 2) (r : Fin 128) (l : Fin 256) : X.qs b (ix2 r l) = X.query b r l := by
  unfold qs query
  rw [queries_apply]
  exact Finset.sum_congr rfl fun d _ => congrArg₂ (· * ·) (X.read_x b r d) (X.read_wq d l)

theorem ws_apply (c : Dev nD) (b : Fin 2) (h : Fin 4) (r j : Fin 128) : X.ws c b h (ix2 r j) = X.weight c b h r j := by
  unfold ws weight score
  rw [weights_apply, maskOf_apply]
  simp only [qs_apply, read_k]
  by_cases ha : attends r.val (128 * c.val + j.val) = true
  · simp only [ha, if_true]
  · simp only [ha]; rfl

/-- A tile's values: each column's head, the weights times the values. -/
theorem own_value (c : Dev nD) (b j : Fin 2) (r l : Fin 128) :
    X.own c b j (ix3 0 ⟨r.val, by omega⟩ l)
      = ∑ k : Fin 128, X.weight c b ⟨2 * j.val + l.val / 64, by omega⟩ r k
          * X.vAt b k ⟨2 * j.val + l.val / 64, by omega⟩ ⟨l.val % 64, Nat.mod_lt _ (by decide)⟩ := by
  have hh (h : Fin 4) : ¬ r.val = 128 + h.val % 2 := by omega
  have key (h : Fin 4) (e : l.val / 64 = h.val % 2) :
      headOut (X.ws c b h) ((mV.access (rKV b h)).read (Elt Ideal) X.v) (fun a => match a with | 0 => ⟨0, by decide⟩ | 1 => ⟨r.val, r.isLt⟩ | 2 => ⟨l.val % 64, Nat.mod_lt _ (by decide)⟩)
        = ∑ k : Fin 128, X.weight c b h r k * X.vAt b k h ⟨l.val % 64, Nat.mod_lt _ (by decide)⟩ := by
    refine Eq.trans ?_ ((headOut_apply (X.ws c b h) ((mV.access (rKV b h)).read (Elt Ideal) X.v) r ⟨l.val % 64, Nat.mod_lt _ (by decide)⟩).trans ?_)
    · congr 1; funext a; match a with
      | 0 => rfl
      | 1 => rfl
      | 2 => rfl
    · exact Finset.sum_congr rfl fun k _ => congrArg₂ (· * ·) (X.ws_apply c b h r k) (X.read_v b h k _)
  unfold own put withHead
  by_cases h1 : l.val / 64 = 1
  · have e1 : (⟨2 * j.val + l.val / 64, by omega⟩ : Fin 4) = ⟨2 * j.val + 1, by omega⟩ := Fin.ext (by show 2 * j.val + l.val / 64 = 2 * j.val + 1; omega)
    rw [e1]
    refine (dif_neg (hh _)).trans ((dif_pos ⟨r.isLt, ?_⟩).trans (key _ ?_))
    · show l.val / 64 = (2 * j.val + 1) % 2; omega
    · show l.val / 64 = (2 * j.val + 1) % 2; omega
  · have e1 : (⟨2 * j.val + l.val / 64, by omega⟩ : Fin 4) = ⟨2 * j.val, by omega⟩ := Fin.ext (by show 2 * j.val + l.val / 64 = 2 * j.val; omega)
    rw [e1]
    refine (dif_neg (hh _)).trans ((dif_neg ?_).trans ((dif_neg (hh _)).trans ((dif_pos ⟨r.isLt, ?_⟩).trans (key _ ?_))))
    · rintro ⟨-, h⟩
      change l.val / 64 = (2 * j.val + 1) % 2 at h
      omega
    · show l.val / 64 = (2 * j.val) % 2; omega
    · show l.val / 64 = (2 * j.val) % 2; omega

/-- A tile's two rows of sums: the weights of each of its heads. -/
theorem own_sum (c : Dev nD) (b j u : Fin 2) (r : Fin 128) :
    X.own c b j (ix3 0 ⟨128 + u.val, by omega⟩ r) = ∑ k : Fin 128, X.weight c b ⟨2 * j.val + u.val, by omega⟩ r k := by
  have key (h : Fin 4) : headSum (X.ws c b h) (fun a => match a with | 0 => ⟨0, by decide⟩ | 1 => ⟨0, by decide⟩ | 2 => ⟨r.val, r.isLt⟩)
        = ∑ k : Fin 128, X.weight c b h r k := by
    refine Eq.trans ?_ ((headSum_apply (X.ws c b h) r).trans ?_)
    · congr 1; funext a; match a with
      | 0 => rfl
      | 1 => rfl
      | 2 => rfl
    · exact Finset.sum_congr rfl fun k _ => X.ws_apply c b h r k
  unfold own put withHead
  fin_cases u
  · refine (dif_neg ?_).trans ((dif_neg ?_).trans ((dif_pos ?_).trans (key _)))
    · show ¬ 128 + 0 = 128 + (2 * j.val + 1) % 2; omega
    · rintro ⟨h, -⟩
      change 128 + 0 < 128 at h
      omega
    · show 128 + 0 = 128 + (2 * j.val) % 2; omega
  · refine (dif_pos ?_).trans (key _)
    show 128 + 1 = 128 + (2 * j.val + 1) % 2; omega

end Inputs

end Cert.Proof

end
-- ==== Proof.Meet.lean ====
/- The sums after all four rounds: every device has the sum over the sixteen. -/
module

public import proofs.«01_k».proof.Proof.Tile

@[expose] public section

noncomputable section

namespace Cert.Proof

open Idealize.ShloMosaic Idealize.ShloMosaic.TcCoe
open Cert.KernelIdeal Cert.KernelIdeal.Gen

theorem addedTo_apply (t u : Vec Ideal S1x136x128 .f32) (r : Fin 136) (l : Fin 128) :
    addedTo t (toSlot (rounded u)) (ix3 0 r l) = t (ix3 0 r l) + u (ix3 0 r l) := by
  pointwise [addedTo, toSlot, rounded]

/-- The devices whose parts device `c` has at quarter `q` after `k` rounds. -/
def reached (q : Fin 4) : ℕ → Dev nD → Multiset (Dev nD)
  | 0, c => {c}
  | k + 1, c => reached q k c + reached q k (peer ⟨(k + q.val) % 4, by omega⟩ c)

theorem reached_succ (q : Fin 4) (k : ℕ) (c : Dev nD) :
    reached q (k + 1) c = reached q k c + reached q k (peer ⟨(k + q.val) % 4, by omega⟩ c) := rfl

theorem reached_all (q : Fin 4) (c : Dev nD) : reached q 4 c = Finset.univ.val := by
  revert q c; decide +kernel

/-- Device `d`'s own tile of quarter `q`. -/
abbrev ownQ (I : Dev nD → Inputs Ideal) (q : Fin 4) (d : Dev nD) : Vec Ideal S1x136x128 .f32 :=
  (I d).own d ⟨q.val / 2, by omega⟩ ⟨q.val % 2, by omega⟩

theorem sums_reached (I : Dev nD → Inputs Ideal) (q : Fin 4) (r : Fin 136) (l : Fin 128) (k : ℕ) (c : Dev nD) :
    sums I k c q (ix3 0 r l) = ((reached q k c).map fun d => (ownQ I q d (ix3 0 r l) : EReal)).sum := by
  induction k generalizing c with
  | zero => exact (Multiset.sum_singleton (M := EReal) _).symm
  | succ k ih =>
    show addedTo _ (toSlot (rounded _)) (ix3 0 r l) = _
    rw [addedTo_apply, ih, ih]
    rw [reached_succ, Multiset.map_add, Multiset.sum_add]

/-- After the four rounds every device's tile is the sum of the sixteen. -/
theorem sums_all (I : Dev nD → Inputs Ideal) (q : Fin 4) (r : Fin 136) (l : Fin 128) (c : Dev nD) :
    sums I 4 c q (ix3 0 r l) = ∑ d : Dev nD, (ownQ I q d (ix3 0 r l) : EReal) := by
  rw [sums_reached, reached_all]
  rfl

end Cert.Proof

end
-- ==== Proof.Project.lean ====
/- The projection over the extended reals: the tile's values over its sums, times the output weights. -/
module

public import proofs.«01_k».proof.Proof.Meet

@[expose] public section

noncomputable section

namespace Cert.Proof

open Idealize.ShloMosaic Idealize.ShloMosaic.TcCoe
open Cert.KernelIdeal Cert.KernelIdeal.Gen

theorem same_word (a u : Fin 2) :
    (FloatOps.sitofp (F := Ideal) FTy.f32 (BitVec.setWidth 32 (IntOp.cmpi .eq (BitVec.ofNat 32 a.val) (BitVec.ofNat 32 u.val))) : EReal)
      = if a = u then 1 else 0 := by
  have one : ((((1#32 : BitVec 32).toInt : ℤ) : ℝ) : EReal) = 1 := by
    rw [show (1#32 : BitVec 32).toInt = 1 by decide]; norm_num
  have zero : ((((0#32 : BitVec 32).toInt : ℤ) : ℝ) : EReal) = 0 := by
    rw [show (0#32 : BitVec 32).toInt = 0 by decide]; norm_num
  fin_cases a <;> fin_cases u
  · exact one
  · exact zero
  · exact zero
  · exact one

/-- The matrix that spreads two heads' sums over their columns. -/
theorem expand_apply (u : Fin 2) (l : Fin 128) :
    (expandMat (F := Ideal) (ix2 u l) : EReal) = if (⟨l.val / 64, by omega⟩ : Fin 2) = u then 1 else 0 := by
  rw [← same_word, ← floorWord_lt ⟨l.val, by omega⟩]
  pointwise [expandMat, k0_pay8, k0_pay7]
  rfl

/-- Half a projection: each column's value over its head's sum, times the output weights. -/
theorem halfProj_apply (s : Vec Ideal S1x2x128 .f32) (a : Vec Ideal S1x128x128 .f32) (wo : Vec Ideal S128x512 .f32)
    (r : Fin 128) (n : Fin 512) :
    halfProj s a wo (ix2 r n) = ∑ l : Fin 128,
      Ideal.div (a (ix3 0 r l)) (s (ix3 0 ⟨l.val / 64, by omega⟩ r)) * wo (ix2 l n) := by
  have h : halfProj s a wo (ix2 r n) = ∑ l : Fin 128,
      Ideal.div (a (ix3 0 r l)) (∑ u : Fin 2, s (ix3 0 u r) * expandMat (F := Ideal) (ix2 u l)) * wo (ix2 l n) := by
    pointwise [halfProj]
  rw [h]
  refine Finset.sum_congr rfl fun l _ => ?_
  congr 2
  simp only [expand_apply, mul_ite, mul_one, mul_zero, Finset.sum_ite_eq, Finset.mem_univ, if_true]

theorem bothHalves_apply (u v : FVec Ideal S128x512 .f32) (r : Fin 128) (n : Fin 512) :
    bothHalves u v (ix3 0 r n) = u (ix2 r n) + v (ix2 r n) := by
  pointwise [bothHalves]

/-- A head's sum of weights over all devices, and a column's weighted values. -/
def allWeights (I : Dev nD → Inputs Ideal) (b : Fin 2) (h : Fin 4) (r : Fin 128) : EReal :=
  ∑ d : Dev nD, ∑ k : Fin 128, (I d).weight d b h r k
def allValues (I : Dev nD → Inputs Ideal) (b : Fin 2) (r : Fin 128) (l : Fin 256) : EReal :=
  ∑ d : Dev nD, ∑ k : Fin 128, (I d).weight d b ⟨l.val / 64, by omega⟩ r k
    * (I d).vAt b k ⟨l.val / 64, by omega⟩ ⟨l.val % 64, Nat.mod_lt _ (by decide)⟩

/-- One column's part of a result entry. -/
def column (I : Dev nD → Inputs Ideal) (c : Dev nD) (b : Fin 2) (r : Fin 128) (n : Fin 512) (l : Fin 256) : EReal :=
  Ideal.div (allValues I b r l) (allWeights I b ⟨l.val / 64, by omega⟩ r) * (I c).woAt l n

theorem projected_apply (I : Dev nD → Inputs Ideal) (c : Dev nD) (b j : Fin 2) (r : Fin 128) (n : Fin 512) :
    projected I c ⟨2 * b.val + j.val, by omega⟩ (ix2 r n)
      = ∑ l : Fin 128, column I c b r n ⟨128 * j.val + l.val, by omega⟩ := by
  have eb : (⟨(2 * b.val + j.val) / 2, by omega⟩ : Fin 2) = b := Fin.ext (by show (2 * b.val + j.val) / 2 = b.val; omega)
  have ej : (⟨(2 * b.val + j.val) % 2, by omega⟩ : Fin 2) = j := Fin.ext (by show (2 * b.val + j.val) % 2 = j.val; omega)
  unfold projected
  rw [halfProj_apply]
  refine Finset.sum_congr rfl fun l _ => ?_
  have eh : (⟨(128 * j.val + l.val) / 64, by omega⟩ : Fin 4) = ⟨2 * j.val + l.val / 64, by omega⟩ :=
    Fin.ext (by show (128 * j.val + l.val) / 64 = 2 * j.val + l.val / 64; omega)
  have el : (⟨(128 * j.val + l.val) % 64, Nat.mod_lt _ (by decide)⟩ : Fin 64) = ⟨l.val % 64, Nat.mod_lt _ (by decide)⟩ :=
    Fin.ext (by show (128 * j.val + l.val) % 64 = l.val % 64; omega)
  unfold column allValues allWeights
  congr 1
  · congr 1
    · refine Eq.trans ?_ ((sums_all I ⟨2 * b.val + j.val, by omega⟩ ⟨r.val, by omega⟩ l c).trans (Finset.sum_congr rfl fun d _ => ?_))
      · show sums I 4 c _ _ = sums I 4 c _ _
        congr 1; funext a; match a with
        | 0 => rfl
        | 1 => rfl
        | 2 => rfl
      · show (I d).own d ⟨(2 * b.val + j.val) / 2, _⟩ ⟨(2 * b.val + j.val) % 2, _⟩ _ = _
        rw [eb, ej, (I d).own_value d b j r l]
        simp only [eh, el]
    · refine Eq.trans ?_ ((sums_all I ⟨2 * b.val + j.val, by omega⟩ ⟨128 + l.val / 64, by omega⟩ r c).trans (Finset.sum_congr rfl fun d _ => ?_))
      · show sums I 4 c _ _ = sums I 4 c _ _
        congr 1; funext a; match a with
        | 0 => rfl
        | 1 => rfl
        | 2 => rfl
      · show (I d).own d ⟨(2 * b.val + j.val) / 2, _⟩ ⟨(2 * b.val + j.val) % 2, _⟩ _ = _
        rw [eb, ej, (I d).own_sum d b j ⟨l.val / 64, by omega⟩ r]
        simp only [eh]
  · refine ((I c).read_wo ⟨2 * b.val + j.val, by omega⟩ l n).trans ?_
    congr 1
    apply Fin.ext
    show 128 * ((2 * b.val + j.val) % 2) + l.val = 128 * j.val + l.val
    omega

/-- A sum over 256 columns as its two halves. -/
theorem two_halves (f : Fin 256 → EReal) :
    ∑ l : Fin 256, f l = (∑ l : Fin 128, f ⟨128 * (0 : Fin 2).val + l.val, by simp; omega⟩)
      + ∑ l : Fin 128, f ⟨128 * (1 : Fin 2).val + l.val, by simp; omega⟩ := by
  refine (Fin.sum_univ_add (a := 128) (b := 128) f).trans (congrArg₂ (· + ·) ?_ ?_)
  · exact Finset.sum_congr rfl fun l _ => congrArg f (Fin.ext (by simp [Nat.add_comm]))
  · exact Finset.sum_congr rfl fun l _ => congrArg f (Fin.ext (by simp [Nat.add_comm]))

theorem outOf_apply (o0 o1 : Vec Ideal S1x128x512 .f32) (b : Fin 2) (r : Fin 128) (n : Fin 512) :
    outOf o0 o1 (ix3 b r n) = if b.val = 0 then o0 (ix3 0 r n) else o1 (ix3 0 r n) := by
  have hi (o : Vec Ideal S1x128x512 .f32) : o (fun a => match a with | 0 => ⟨0, by decide⟩ | 1 => r | 2 => n) = o (ix3 0 r n) := by
    congr 1; funext a; match a with
    | 0 => rfl
    | 1 => rfl
    | 2 => rfl
  show (if b.val = 0 then o0 else o1) _ = _
  split
  · exact hi o0
  · exact hi o1

/-- A result entry: the sum over its columns. -/
theorem result_apply (I : Dev nD → Inputs Ideal) (c : Dev nD) (b : Fin 2) (r : Fin 128) (n : Fin 512) :
    result I c (ix3 b r n) = ∑ l : Fin 256, column I c b r n l := by
  rw [two_halves, ← projected_apply, ← projected_apply, ← bothHalves_apply]
  unfold result
  rw [outOf_apply]
  match b with
  | 0 => rfl
  | 1 => rfl

end Cert.Proof

end
-- ==== Proof.Softmax.lean ====
/- Dividing the weighted values by the sum of the weights, or the weights before they are used: over the extended reals
   the two agree when the scores are real. -/
module

public import Idealize.ShloMosaic.PureOps.Ideal

@[expose] public section

noncomputable section

namespace Cert.Proof

open Idealize.ShloMosaic

variable {ι : Type} [Fintype ι]

theorem coe_sum (f : ι → ℝ) : ∑ i, ((f i : ℝ) : EReal) = ((∑ i, f i : ℝ) : EReal) :=
  (map_sum (⟨⟨Real.toEReal, EReal.coe_zero⟩, EReal.coe_add⟩ : ℝ →+ EReal) f Finset.univ).symm

/-- A nonnegative real factor goes into a sum. -/
theorem mul_sum_real (c : ℝ) (hc : 0 ≤ c) (f : ι → EReal) : (c : EReal) * ∑ i, f i = ∑ i, (c : EReal) * f i := by
  classical
  induction (Finset.univ : Finset ι) using Finset.induction_on with
  | empty => simp
  | insert a s ha ih =>
    rw [Finset.sum_insert ha, Finset.sum_insert ha,
      EReal.left_distrib_of_nonneg_of_ne_top (EReal.coe_nonneg.mpr hc) (EReal.coe_ne_top c), ih]

/-- The greatest score is real when the scores are real or ⊥ and one of them is real. -/
theorem greatest_real (t : ι → EReal) (ht : ∀ i, t i ≠ ⊤) (j : ι) (hj : t j ≠ ⊥) :
    ∃ μ : ℝ, Finset.univ.fold max ⊥ t = (μ : EReal) := by
  have top : Finset.univ.fold max ⊥ t < ⊤ :=
    (Finset.fold_max_lt _).mpr ⟨bot_lt_top, fun i _ => lt_top_iff_ne_top.mpr (ht i)⟩
  have bot : ⊥ < Finset.univ.fold max ⊥ t :=
    (Finset.lt_fold_max _).mpr (.inr ⟨j, Finset.mem_univ j, bot_lt_iff_ne_bot.mpr hj⟩)
  exact ⟨_, (EReal.coe_toReal top.ne bot.ne').symm⟩

/-- The two ways of weighting agree. -/
theorem softmax_eq (on : ι → Bool) (s : ι → ℝ) (v : ι → EReal) (j : ι) (hj : on j = true) :
    Ideal.div (∑ i, (if on i then Ideal.exp (s i) else 0) * v i) (∑ i, if on i then Ideal.exp (s i) else 0)
      = ∑ i, v i * Ideal.div
          (Ideal.exp ((if on i then (s i : EReal) else ⊥) - Finset.univ.fold max ⊥ fun i => if on i then (s i : EReal) else ⊥))
          (∑ k, Ideal.exp ((if on k then (s k : EReal) else ⊥) - Finset.univ.fold max ⊥ fun i => if on i then (s i : EReal) else ⊥)) := by
  obtain ⟨μ, hμ⟩ := greatest_real (fun i => if on i then (s i : EReal) else ⊥)
    (fun i => by cases on i <;> simp) j (by simp [hj])
  rw [hμ]
  have he (i : ι) : (if on i then Ideal.exp (s i) else 0) = (((if on i then Real.exp (s i) else 0 : ℝ)) : EReal) := by
    cases on i <;> simp
  have hr (i : ι) : Ideal.exp ((if on i then (s i : EReal) else ⊥) - (μ : EReal))
      = (((if on i then Real.exp (s i) else 0) * Real.exp (-μ) : ℝ) : EReal) := by
    cases on i
    · simp
    · simp only [if_true]
      rw [← EReal.coe_sub, Ideal.exp_coe, sub_eq_add_neg, Real.exp_add]
  simp only [he, hr, coe_sum]
  generalize hp : (fun i => if on i then Real.exp (s i) else 0 : ι → ℝ) = p
  have hp' (i : ι) : (if on i then Real.exp (s i) else 0) = p i := congrFun hp i
  simp only [hp']
  have nonneg (i : ι) : 0 ≤ p i := by rw [← hp' i]; split <;> positivity
  have pos : 0 < ∑ i, p i := Finset.sum_pos' (fun i _ => nonneg i) ⟨j, Finset.mem_univ j, by rw [← hp' j, if_pos hj]; positivity⟩
  have posr : 0 < ∑ i, p i * Real.exp (-μ) := by rw [← Finset.sum_mul]; positivity
  rw [Ideal.div_coe pos.ne', mul_comm, mul_sum_real _ (by positivity)]
  refine Finset.sum_congr rfl fun i _ => ?_
  rw [Ideal.div_coe posr.ne', ← EReal.coe_mul, mul_comm (v i), ← mul_assoc, ← EReal.coe_mul]
  congr 2
  rw [← Finset.sum_mul]
  have := Real.exp_ne_zero (-μ)
  have := pos.ne'
  field_simp

end Cert.Proof

end
-- ==== Proof.Spec.lean ====
/- What the reference computes, in stages: the mask, the scores, their exponentials, the weights and the projection. -/
module

public import proofs.«01_k».proof.Proof.Gen.ReferenceIdeal.Run
public import proofs.«01_k».proof.Proof.Mask

@[expose] public section

noncomputable section

namespace Cert.Proof.Spec

open Idealize.ShloMosaic Idealize.ShloMosaic.TcCoe
open Cert.ReferenceIdeal Cert.ReferenceIdeal.Gen

variable {F : FTy → Type} [FloatOps F]

/-- The block of each query, and of each key. -/
def queryBlock : IVec S128 32 :=
  select (andi (cmpi .ne (signi (iotaInDim S128 32 0)) (broadcastInDim S128 ![] bcast_S_S128 (signi (id (constantI S_ 32 64#32)))))
      (cmpi .ne (Host.remsi (iotaInDim S128 32 0) (broadcastInDim S128 ![] bcast_S_S128 (id (constantI S_ 32 64#32))))
        (broadcastInDim S128 ![] bcast_S_S128 (constantI S_ 32 0#32))))
    (subi (Host.divsi (iotaInDim S128 32 0) (broadcastInDim S128 ![] bcast_S_S128 (id (constantI S_ 32 64#32))))
      (broadcastInDim S128 ![] bcast_S_S128 (constantI S_ 32 1#32)))
    (Host.divsi (iotaInDim S128 32 0) (broadcastInDim S128 ![] bcast_S_S128 (id (constantI S_ 32 64#32))))
def keyBlock : IVec S2048 32 :=
  select (andi (cmpi .ne (signi (iotaInDim S2048 32 0)) (broadcastInDim S2048 ![] bcast_S_S2048 (signi (id (constantI S_ 32 64#32)))))
      (cmpi .ne (Host.remsi (iotaInDim S2048 32 0) (broadcastInDim S2048 ![] bcast_S_S2048 (id (constantI S_ 32 64#32))))
        (broadcastInDim S2048 ![] bcast_S_S2048 (constantI S_ 32 0#32))))
    (subi (Host.divsi (iotaInDim S2048 32 0) (broadcastInDim S2048 ![] bcast_S_S2048 (id (constantI S_ 32 64#32))))
      (broadcastInDim S2048 ![] bcast_S_S2048 (constantI S_ 32 1#32)))
    (Host.divsi (iotaInDim S2048 32 0) (broadcastInDim S2048 ![] bcast_S_S2048 (id (constantI S_ 32 64#32))))

/-- The block numbers along the rows and along the columns, and the divisor of their sum. -/
def rows : IVec S128x2048 32 :=
  broadcastInDim S128x2048 ![0, 1] bcast_S128x1_S128x2048_0_1 (broadcastInDim S128x1 ![0] bcast_S128_S128x1_0 queryBlock)
def cols : IVec S128x2048 32 :=
  broadcastInDim S128x2048 ![0, 1] bcast_S1x2048_S128x2048_0_1 (broadcastInDim S1x2048 ![1] bcast_S2048_S1x2048_1 keyBlock)
def three : IVec S_ 32 :=
  select (cmpi .eq (id (constantI S_ 32 3#32)) (constantI S_ 32 0#32)) (constantI S_ 32 1#32) (id (constantI S_ 32 3#32))
def remainder : IVec S128x2048 32 :=
  Host.remsi (addi rows cols) (broadcastInDim S128x2048 ![] bcast_S_S128x2048 three)

def mask : IVec S128x2048 1 :=
  ori (ori (cmpi .eq rows cols)
      (broadcastInDim S128x2048 ![0, 1] bcast_S1x2048_S128x2048_0_1
        (cmpi .eq (broadcastInDim S1x2048 ![1] bcast_S2048_S1x2048_1 keyBlock) (broadcastInDim S1x2048 ![] bcast_S_S1x2048 (constantI S_ 32 0#32)))))
    (cmpi .eq
      (select
        (andi
          (cmpi .ne (cmpi .slt remainder (broadcastInDim S128x2048 ![] bcast_S_S128x2048 (constantI S_ 32 0#32)))
            (broadcastInDim S128x2048 ![] bcast_S_S128x2048 (cmpi .slt three (constantI S_ 32 0#32))))
          (cmpi .ne remainder (broadcastInDim S128x2048 ![] bcast_S_S128x2048 (constantI S_ 32 0#32))))
        (addi remainder (broadcastInDim S128x2048 ![] bcast_S_S128x2048 three)) remainder)
      (broadcastInDim S128x2048 ![] bcast_S_S128x2048 (constantI S_ 32 0#32)))

/-- The scaled scores; the scores where the mask holds; their exponentials below the greatest. -/
def scores (x : FVec F S2x128x512 .f32) (wq : FVec F S512x256 .f32) (k : FVec F S2x2048x4x64 .f32) : FVec F S2x4x128x2048 .f32 :=
  mulf (Host.dotGeneral dot_S2x128x4x64_S2x2048x4x64_S2x4x128x2048_3_3_1_1_02_02 none
      (shapeCast _ (Host.dotGeneral dot_S2x128x512_S512x256_S2x128x256_2_0_01_1_n_n none x wq) shapeCasts_S2x128x256_S2x128x4x64) k)
    (broadcastInDim S2x4x128x2048 ![] bcast_S_S2x4x128x2048 (constant S_ .f32 0x3E000000#32))
def masked (mk : IVec S128x2048 1) (s : FVec F S2x4x128x2048 .f32) : FVec F S2x4x128x2048 .f32 :=
  select (broadcastInDim S2x4x128x2048 ![0, 1, 2, 3] bcast_S1x1x128x2048_S2x4x128x2048_0_1_2_3
      (broadcastInDim S1x1x128x2048 ![2, 3] bcast_S128x2048_S1x1x128x2048_2_3 mk)) s
    (broadcastInDim S2x4x128x2048 ![] bcast_S_S2x4x128x2048 (id (constant S_ .f32 0xFF800000#32)))
def exponentials (t : FVec F S2x4x128x2048 .f32) : FVec F S2x4x128x2048 .f32 :=
  Host.exp (subf t (broadcastInDim S2x4x128x2048 ![0, 1, 2, 3] bcast_S2x4x128x1_S2x4x128x2048_0_1_2_3
    (broadcastInDim S2x4x128x1 ![0, 1, 2] bcast_S2x4x128_S2x4x128x1_0_1_2
      (Host.reduce FloatOps.maximumf t (constant S_ .f32 0xFF800000#32) reducesTo_S2x4x128x2048_S2x4x128_d3 h_S_))))

/-- The rows with a key, the weights, and the result. -/
def rowKept (mk : IVec S128x2048 1) : IVec S128 1 :=
  Host.reduce IntOp.ori mk (constantI S_ 1 0#1) reducesTo_S128x2048_S128_d1 h_S_
def shares (kept : IVec S128 1) (e : FVec F S2x4x128x2048 .f32) : FVec F S2x4x128x2048 .f32 :=
  select (broadcastInDim S2x4x128x2048 ![0, 1, 2, 3] bcast_S1x1x128x1_S2x4x128x2048_0_1_2_3
      (broadcastInDim S1x1x128x1 ![2] bcast_S128_S1x1x128x1_2 kept))
    (Host.divf e (broadcastInDim S2x4x128x2048 ![0, 1, 2, 3] bcast_S2x4x128x1_S2x4x128x2048_0_1_2_3
      (select (broadcastInDim S2x4x128x1 ![0, 1, 2, 3] bcast_S1x1x128x1_S2x4x128x1_0_1_2_3
          (broadcastInDim S1x1x128x1 ![2] bcast_S128_S1x1x128x1_2 kept))
        (broadcastInDim S2x4x128x1 ![0, 1, 2] bcast_S2x4x128_S2x4x128x1_0_1_2
          (Host.reduceAdd e (constant S_ .f32 0x00000000#32) reducesTo_S2x4x128x2048_S2x4x128_d3 h_S_))
        (broadcastInDim S2x4x128x1 ![] bcast_S_S2x4x128x1 (id (constant S_ .f32 0x3F800000#32))))))
    (broadcastInDim S2x4x128x2048 ![] bcast_S_S2x4x128x2048 (id (constant S_ .f32 0x00000000#32)))
def output (w : FVec F S2x4x128x2048 .f32) (v : FVec F S2x2048x4x64 .f32) (wo : FVec F S256x512 .f32) : FVec F S2x128x512 .f32 :=
  Host.dotGeneral dot_S2x128x256_S256x512_S2x128x512_2_0_01_1_n_n none
    (shapeCast _ (transpose S2x128x4x64 [0, 3, 1, 2]
      (Host.dotGeneral dot_S2x2048x4x64_S2x4x128x2048_S2x4x64x128_1_3_3_2_02_01 none v w)
      transposes_S2x4x64x128_S2x128x4x64_0_3_1_2) shapeCasts_S2x128x4x64_S2x128x256) wo

/-- The reference's result is the stages one after the other. -/
theorem result_eq (m : (ℓ : Loc nD τ sig) → Buf (Elt F) ℓ) (c : Dev nD) :
    Value.res_main_v44 m c = output (shares (rowKept mask) (exponentials (masked mask
        (scores (m ((c.tc : Thread nD τ).loc main_arg0)) (m ((c.tc : Thread nD τ).loc main_arg1)) (m ((c.tc : Thread nD τ).loc main_arg2))))))
      (m ((c.tc : Thread nD τ).loc main_arg3)) (m ((c.tc : Thread nD τ).loc main_arg4)) := rfl

/-- The sign of a word; the quotient by 64 rounded down, and the test on two block numbers, as the reference forms them. -/
def signWord (n : BitVec 32) : BitVec 32 := if n = 0 then 0 else if n.msb = true then -1 else 1
def hostFloor (n : BitVec 32) : BitVec 32 :=
  Scalar.select
    (IntOp.andi (IntOp.cmpi .ne (signWord n) (signWord 64#32))
      (IntOp.cmpi .ne (IntOp.remsi .host n 64#32) 0#32))
    (IntOp.subi (IntOp.divsi .host n 64#32) 1#32) (IntOp.divsi .host n 64#32)
def hostMeet (a b : BitVec 32) : BitVec 1 :=
  let d : BitVec 32 := Scalar.select (IntOp.cmpi .eq 3#32 0#32) 1#32 3#32
  let r : BitVec 32 := IntOp.remsi .host (IntOp.addi a b) d
  IntOp.ori (IntOp.ori (IntOp.cmpi .eq a b) (IntOp.cmpi .eq b 0#32))
    (IntOp.cmpi .eq
      (Scalar.select (IntOp.andi (IntOp.cmpi .ne (IntOp.cmpi .slt r 0#32) (IntOp.cmpi .slt d 0#32)) (IntOp.cmpi .ne r 0#32))
        (IntOp.addi r d) r) 0#32)

theorem mask_words (r : Fin 128) (j : Fin 2048) :
    mask (ix2 r j) = hostMeet (hostFloor (BitVec.ofNat 32 r.val)) (hostFloor (BitVec.ofNat 32 j.val)) := by
  pointwise [mask, rows, cols, remainder, three, queryBlock, keyBlock]
  rfl

theorem hostFloor_lt (n : Fin 2048) : hostFloor (BitVec.ofNat 32 n.val) = BitVec.ofNat 32 (n.val / 64) := by
  revert n; decide +kernel

theorem hostMeet_lt (a : Fin 2) (b : Fin 32) :
    hostMeet (BitVec.ofNat 32 a.val) (BitVec.ofNat 32 b.val)
      = if a.val = b.val ∨ b.val = 0 ∨ (a.val + b.val) % 3 = 0 then 1#1 else 0#1 := by
  revert a b; decide +kernel

/-- The reference's mask. -/
theorem mask_apply (r : Fin 128) (j : Fin 2048) : mask (ix2 r j) = if attends r.val j.val then 1#1 else 0#1 := by
  rw [mask_words, hostFloor_lt ⟨r.val, by omega⟩, hostFloor_lt j]
  rw [hostMeet_lt ⟨r.val / 64, by omega⟩ ⟨j.val / 64, by omega⟩]
  simp only [attends, Bool.or_eq_true, beq_iff_eq, or_assoc]

/-- Every query attends to the first key. -/
theorem attends_first (i : ℕ) : attends i 0 = true := by
  simp [attends]

theorem rowKept_apply (r : Fin 128) : rowKept mask (ix1 r) = 1#1 := by
  have h : rowKept mask (ix1 r) = Finset.univ.fold IntOp.ori 0#1 fun j : Fin 2048 => mask (ix2 r j) := by
    pointwise [rowKept]
  rw [h, ← Finset.insert_erase (Finset.mem_univ (0 : Fin 2048)), Finset.fold_insert (Finset.notMem_erase _ _), mask_apply]
  show IntOp.ori (if attends r.val 0 = true then 1#1 else 0#1) _ = _
  rw [attends_first, if_pos rfl]
  generalize Finset.fold IntOp.ori _ _ _ = w
  revert w; decide

theorem lowest_word : Ideal.ofBits .f32 0xFF800000#32 = ⊥ := by
  show Ideal.ieee 8 23 4286578688#32 = ⊥
  simp [Ideal.ieee]

theorem scores_apply (x : FVec Ideal S2x128x512 .f32) (wq : FVec Ideal S512x256 .f32) (k : FVec Ideal S2x2048x4x64 .f32)
    (b : Fin 2) (h : Fin 4) (r : Fin 128) (j : Fin 2048) :
    scores x wq k (ix4 b h r j)
      = (∑ e : Fin 64, (∑ d : Fin 512, x (ix3 b r d) * wq (ix2 d ⟨h.val * 64 + e.val, by omega⟩)) * k (ix4 b j h e))
        * Ideal.ofBits .f32 0x3E000000#32 := by
  pointwise [scores]

theorem masked_apply (s : FVec Ideal S2x4x128x2048 .f32) (b : Fin 2) (h : Fin 4) (r : Fin 128) (j : Fin 2048) :
    masked mask s (ix4 b h r j) = if attends r.val j.val then (s (ix4 b h r j) : EReal) else ⊥ := by
  have e : masked mask s (ix4 b h r j) = Scalar.select (mask (ix2 r j)) (s (ix4 b h r j)) (Ideal.ofBits .f32 0xFF800000#32) := by
    pointwise [masked]
    rfl
  rw [e, lowest_word, mask_apply]
  split <;> rfl

theorem exponentials_apply (t : FVec Ideal S2x4x128x2048 .f32) (b : Fin 2) (h : Fin 4) (r : Fin 128) (j : Fin 2048) :
    exponentials t (ix4 b h r j)
      = Ideal.exp ((t (ix4 b h r j) : EReal) - Finset.univ.fold max ⊥ fun i : Fin 2048 => (t (ix4 b h r i) : EReal)) := by
  rw [← lowest_word]
  pointwise [exponentials]

theorem shares_apply (e : FVec Ideal S2x4x128x2048 .f32) (b : Fin 2) (h : Fin 4) (r : Fin 128) (j : Fin 2048) :
    shares (rowKept mask) e (ix4 b h r j) = Ideal.div (e (ix4 b h r j)) (∑ i : Fin 2048, e (ix4 b h r i)) := by
  have s (kept : IVec S128 1) : shares kept e (ix4 b h r j) = Scalar.select (kept (ix1 r))
      (Ideal.div (e (ix4 b h r j))
        (Scalar.select (kept (ix1 r)) (∑ i : Fin 2048, e (ix4 b h r i)) (id (constant (F := Ideal) S_ .f32 0x3F800000#32) ix0)))
      (id (constant (F := Ideal) S_ .f32 0x00000000#32) ix0) := by
    pointwise [shares]
  rw [s, rowKept_apply]
  rfl

theorem output_apply (w : FVec Ideal S2x4x128x2048 .f32) (v : FVec Ideal S2x2048x4x64 .f32) (wo : FVec Ideal S256x512 .f32)
    (b : Fin 2) (r : Fin 128) (n : Fin 512) :
    output w v wo (ix3 b r n) = ∑ l : Fin 256,
      (∑ j : Fin 2048, v (ix4 b j ⟨l.val / 64, by omega⟩ ⟨l.val % 64, Nat.mod_lt _ (by decide)⟩) * w (ix4 b ⟨l.val / 64, by omega⟩ r j))
        * wo (ix2 l n) := by
  pointwise [output]

/-- The masked scores of a row and head, and the share of a key among them. -/
def kept (s : Fin 2048 → EReal) (r : Fin 128) (j : Fin 2048) : EReal := if attends r.val j.val then s j else ⊥
def share (s : Fin 2048 → EReal) (r : Fin 128) (j : Fin 2048) : EReal :=
  Ideal.div (Ideal.exp (kept s r j - Finset.univ.fold max ⊥ (kept s r)))
    (∑ k : Fin 2048, Ideal.exp (kept s r k - Finset.univ.fold max ⊥ (kept s r)))

/-- A result entry of the reference: for each column, the values weighted by the softmax of the scores. -/
theorem stages_apply (x : FVec Ideal S2x128x512 .f32) (wq : FVec Ideal S512x256 .f32) (k v : FVec Ideal S2x2048x4x64 .f32)
    (wo : FVec Ideal S256x512 .f32) (b : Fin 2) (r : Fin 128) (n : Fin 512) :
    output (shares (rowKept mask) (exponentials (masked mask (scores x wq k)))) v wo (ix3 b r n)
      = ∑ l : Fin 256,
        (∑ j : Fin 2048, v (ix4 b j ⟨l.val / 64, by omega⟩ ⟨l.val % 64, Nat.mod_lt _ (by decide)⟩)
          * share (fun j => scores x wq k (ix4 b ⟨l.val / 64, by omega⟩ r j)) r j) * wo (ix2 l n) := by
  rw [output_apply]
  simp only [shares_apply, exponentials_apply, masked_apply]
  rfl

end Cert.Proof.Spec

end
-- ==== Proof.Whole.lean ====
/- The equation of the results: the kernel's sums over devices are sums over the whole arrays' keys, and the softmax of
   real scores may be taken before or after the values are weighted. -/
module

public import proofs.«01_k».proof.Proof.Project
public import proofs.«01_k».proof.Proof.Softmax
public import proofs.«01_k».proof.Proof.Spec

@[expose] public section

noncomputable section

namespace Cert.Proof

open Idealize.ShloMosaic Idealize.ShloMosaic.TcCoe
open Cert.KernelIdeal Cert.KernelIdeal.Gen

/-- The extended reals that are real. -/
def IsReal (x : EReal) : Prop := ∃ r : ℝ, x = (r : EReal)

theorem IsReal.mul {x y : EReal} : IsReal x → IsReal y → IsReal (x * y)
  | ⟨a, ha⟩, ⟨b, hb⟩ => ⟨a * b, by rw [ha, hb, EReal.coe_mul]⟩

theorem IsReal.sum {ι : Type} [Fintype ι] {f : ι → EReal} (h : ∀ i, IsReal (f i)) : IsReal (∑ i, f i) := by
  choose g hg using h
  exact ⟨∑ i, g i, by rw [← coe_sum]; exact Finset.sum_congr rfl fun i _ => hg i⟩

theorem eighth_real : IsReal (Ideal.ofBits .f32 0x3E000000#32) := by
  show IsReal (Ideal.ieee 8 23 0x3E000000#32)
  simp only [Ideal.ieee]
  rw [if_neg (by decide), if_neg (by decide)]
  exact ⟨_, rfl⟩

/-- A sum over the devices and their keys is the sum over all the keys. -/
theorem sum_keys (f : Fin 2048 → EReal) :
    ∑ d : Dev nD, ∑ k : Fin 128, f ⟨128 * d.val + k.val, by have : d.val < 16 := d.isLt; omega⟩ = ∑ j : Fin 2048, f j := by
  rw [← Fintype.sum_prod_type' (f := fun (d : Dev nD) (k : Fin 128) => f ⟨128 * d.val + k.val, by have : d.val < 16 := d.isLt; omega⟩)]
  refine Fintype.sum_equiv (finProdFinEquiv (m := 16) (n := 128)) _ _ fun p => congrArg f (Fin.ext ?_)
  show 128 * p.1.val + p.2.val = p.2.val + 128 * p.1.val
  omega

/-- Where device `d`'s block has its keys in the whole array. -/
theorem block_at (d : Dev nD) (w : Cert.ReferenceIdeal.S2x2048x4x64.Idx → EReal) (b : Fin 2) (k : Fin 128) (h : Fin 4) (e : Fin 64) :
    Layout.block S2x128x4x64 Cert.ReferenceIdeal.S2x2048x4x64 1 16 d w (by decide) (ix4 b k h e)
      = w (ix4 b ⟨128 * d.val + k.val, by have : d.val < 16 := d.isLt; omega⟩ h e) := by
  show w _ = w _
  congr 1
  funext a
  apply Fin.ext
  match a with
  | 0 => rfl
  | 1 => show d.val * 128 + k.val = 128 * d.val + k.val; omega
  | 2 => rfl
  | 3 => rfl

/-- What the devices hold of the whole arrays. -/
structure Split (I : Dev nD → Inputs Ideal) (x : FVec Ideal S2x128x512 .f32) (wq : FVec Ideal S512x256 .f32)
    (k v : FVec Ideal Cert.ReferenceIdeal.S2x2048x4x64 .f32) (wo : FVec Ideal S256x512 .f32) : Prop where
  x (d : Dev nD) : (I d).x = x
  wq (d : Dev nD) : (I d).wq = wq
  k (d : Dev nD) : (I d).k = Layout.block S2x128x4x64 Cert.ReferenceIdeal.S2x2048x4x64 1 16 d k (by decide)
  v (d : Dev nD) : (I d).v = Layout.block S2x128x4x64 Cert.ReferenceIdeal.S2x2048x4x64 1 16 d v (by decide)
  wo (d : Dev nD) : (I d).wo = wo

variable {I : Dev nD → Inputs Ideal} {x : FVec Ideal S2x128x512 .f32} {wq : FVec Ideal S512x256 .f32}
  {k v : FVec Ideal Cert.ReferenceIdeal.S2x2048x4x64 .f32} {wo : FVec Ideal S256x512 .f32}

theorem Split.score (H : Split I x wq k v wo) (d : Dev nD) (b : Fin 2) (h : Fin 4) (r j : Fin 128) :
    (I d).score b h r j = Spec.scores x wq k (ix4 b h r ⟨128 * d.val + j.val, by have : d.val < 16 := d.isLt; omega⟩) := by
  rw [Spec.scores_apply]
  unfold Inputs.score eighth
  congr 1
  refine Finset.sum_congr rfl fun e _ => ?_
  have he : (⟨64 * h.val + e.val, by omega⟩ : Fin 256) = ⟨h.val * 64 + e.val, by omega⟩ :=
    Fin.ext (by show 64 * h.val + e.val = h.val * 64 + e.val; omega)
  rw [he]
  unfold Inputs.query Inputs.kAt Inputs.xAt Inputs.wqAt
  rw [H.x, H.wq, H.k, block_at]

theorem Split.value (H : Split I x wq k v wo) (d : Dev nD) (b : Fin 2) (j : Fin 128) (h : Fin 4) (e : Fin 64) :
    (I d).vAt b j h e = v (ix4 b ⟨128 * d.val + j.val, by have : d.val < 16 := d.isLt; omega⟩ h e) := by
  unfold Inputs.vAt
  rw [H.v, block_at]

/-- The sums over all devices, as sums over the whole arrays' keys. -/
theorem Split.allWeights (H : Split I x wq k v wo) (b : Fin 2) (h : Fin 4) (r : Fin 128) :
    allWeights I b h r = ∑ j : Fin 2048, if attends r.val j.val then Ideal.exp (Spec.scores x wq k (ix4 b h r j)) else 0 := by
  rw [← sum_keys]
  unfold Proof.allWeights Inputs.weight
  simp only [H.score]

theorem Split.allValues (H : Split I x wq k v wo) (b : Fin 2) (r : Fin 128) (l : Fin 256) :
    allValues I b r l = ∑ j : Fin 2048,
      (if attends r.val j.val then Ideal.exp (Spec.scores x wq k (ix4 b ⟨l.val / 64, by omega⟩ r j)) else 0)
        * v (ix4 b j ⟨l.val / 64, by omega⟩ ⟨l.val % 64, Nat.mod_lt _ (by decide)⟩) := by
  rw [← sum_keys]
  unfold Proof.allValues Inputs.weight
  simp only [H.score, H.value]

theorem scores_real (hx : ∀ i, IsReal (x i)) (hwq : ∀ i, IsReal (wq i)) (hk : ∀ i, IsReal (k i))
    (b : Fin 2) (h : Fin 4) (r : Fin 128) (j : Fin 2048) : IsReal (Spec.scores x wq k (ix4 b h r j)) := by
  rw [Spec.scores_apply]
  exact (IsReal.sum fun e => (IsReal.sum fun d => (hx _).mul (hwq _)).mul (hk _)).mul eighth_real

/-- One column of the kernel's result entry is the reference's. -/
theorem Split.column (H : Split I x wq k v wo) (hx : ∀ i, IsReal (x i)) (hwq : ∀ i, IsReal (wq i)) (hk : ∀ i, IsReal (k i))
    (c : Dev nD) (b : Fin 2) (r : Fin 128) (n : Fin 512) (l : Fin 256) :
    column I c b r n l
      = (∑ j : Fin 2048, v (ix4 b j ⟨l.val / 64, by omega⟩ ⟨l.val % 64, Nat.mod_lt _ (by decide)⟩)
          * Spec.share (fun j => Spec.scores x wq k (ix4 b ⟨l.val / 64, by omega⟩ r j)) r j) * wo (ix2 l n) := by
  unfold Proof.column Inputs.woAt
  rw [H.allValues, H.allWeights, H.wo]
  congr 1
  choose s hs using scores_real hx hwq hk b ⟨l.val / 64, by omega⟩ r
  unfold Spec.share Spec.kept
  simp only [hs]
  exact softmax_eq (fun j : Fin 2048 => attends r.val j.val) s _ 0 (Spec.attends_first r.val)

/-- Every device's result is the reference's. -/
theorem Split.result (H : Split I x wq k v wo) (hx : ∀ i, IsReal (x i)) (hwq : ∀ i, IsReal (wq i)) (hk : ∀ i, IsReal (k i))
    (c : Dev nD) :
    result I c = Spec.output (Spec.shares (Spec.rowKept Spec.mask) (Spec.exponentials (Spec.masked Spec.mask (Spec.scores x wq k)))) v wo := by
  funext i
  obtain ⟨b, r, n, rfl⟩ : ∃ b r n, i = ix3 b r n := ⟨i 0, i 1, i 2, eq_ix3 i⟩
  rw [Spec.stages_apply, result_apply]
  exact Finset.sum_congr rfl fun l _ => H.column hx hwq hk c b r n l

end Cert.Proof

end
-- ==== Proof.Finite.lean ====
/- The precondition read back: where it holds, every entry of the inputs, the query weights and the keys is real. -/
module

public import proofs.«01_k».proof.Pre_finite_scores_KernelIdeal
public import proofs.«01_k».proof.Proof.Gen.Pre_finite_scores_KernelIdeal
public import proofs.«01_k».proof.Proof.Whole
public import Idealize.ShloMosaic.Lib.ReduceAll

@[expose] public section

noncomputable section

namespace Cert.Proof

open Idealize.ShloMosaic Cert.Pre_finite_scores_KernelIdeal

theorem greatest_word : Ideal.ofBits .f32 0x7F800000#32 = ⊤ := by
  show Ideal.ieee 8 23 0x7F800000#32 = ⊤
  simp [Ideal.ieee]

/-- A value whose absolute value is below ⊤ is real. -/
theorem real_of_abs (y : EReal) (h : Ideal.cmp .olt (max y (-y)) (Ideal.ofBits .f32 0x7F800000#32) = 1#1) : IsReal y := by
  rw [greatest_word] at h
  have hlt : max y (-y) < ⊤ := by
    by_contra hn
    simp [Ideal.cmp, hn] at h
  obtain ⟨h1, h2⟩ := max_lt_iff.mp hlt
  exact ⟨y.toReal, (EReal.coe_toReal h1.ne fun e => by simp [e] at h2).symm⟩

instance : Subsingleton S_.Idx := ⟨fun a b => funext fun i => i.elim0⟩

theorem real_inputs (x : FVec Ideal S2x128x512 .f32) (wq : FVec Ideal S512x256 .f32) (k v : FVec Ideal S2x128x4x64 .f32)
    (wo : FVec Ideal S256x512 .f32) (h : fn (F := Ideal) x wq k v wo = fun _ => 1#1) :
    (∀ i, IsReal (x i)) ∧ (∀ i, IsReal (wq i)) ∧ ∀ i, IsReal (k i) := by
  have h0 := congrFun h ix0
  obtain ⟨h12, h3⟩ := IntOp.andi_eq_one.1 h0
  obtain ⟨h1, h2⟩ := IntOp.andi_eq_one.1 h12
  exact ⟨fun i => real_of_abs (x i) (Host.reduce_andi_all _ _ _ _ _ h1 i),
    fun i => real_of_abs (wq i) (Host.reduce_andi_all _ _ _ _ _ h2 i),
    fun i => real_of_abs (k i) (Host.reduce_andi_all _ _ _ _ _ h3 i)⟩

/-- If every device's block of an array is real, the array is. -/
theorem real_blocks (w : Cert.ReferenceIdeal.S2x2048x4x64.Idx → EReal)
    (h : ∀ (d : Dev Cert.KernelIdeal.nD) i, IsReal (Layout.block S2x128x4x64 Cert.ReferenceIdeal.S2x2048x4x64 1 16 d w (by decide) i))
    (i : Cert.ReferenceIdeal.S2x2048x4x64.Idx) : IsReal (w i) := by
  obtain ⟨b, j, a, e, rfl⟩ : ∃ (b : Fin 2) (j : Fin 2048) (a : Fin 4) (e : Fin 64), i = ix4 b j a e := ⟨i 0, i 1, i 2, i 3, eq_ix4 i⟩
  have hb := h ⟨j.val / 128, by show _ < 16; omega⟩ (ix4 b ⟨j.val % 128, Nat.mod_lt _ (by decide)⟩ a e)
  rw [block_at] at hb
  have ej : (⟨128 * (j.val / 128) + j.val % 128, by omega⟩ : Fin 2048) = j :=
    Fin.ext (by show 128 * (j.val / 128) + j.val % 128 = j.val; omega)
  rwa [ej] at hb

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite_scores_KernelIdeal
public import proofs.«01_k».proof.Proof.Gen.Pre_finite_scores_ReferenceIdeal
public import proofs.«01_k».proof.Proof.Result
public import proofs.«01_k».proof.Proof.SameText
public import proofs.«01_k».proof.Proof.Finite
public import Idealize.ShloMosaic.Adequacy
public import Idealize.ShloMosaic.Init

@[expose] public section

noncomputable section

namespace Cert.Proof

open Idealize.ShloMosaic Idealize.SL.Sem

/-- The kernel over the extended reals ends with its arguments and its counters as they were. -/
theorem frame_kernelIdeal : Cert.quiescent_KernelIdeal := fun m ρ _ =>
  frame (F := Ideal) m ρ

/-- The kernel over bit patterns is the same text, so the same run. -/
theorem frame_kernel : Cert.quiescent_Kernel := fun m ρ _ => by
  rw [same_defs]
  exact frame (F := Bits) m ρ

/-- The reference writes none of its arguments and has no semaphores. -/
theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- On real inputs, query weights and keys, every device's result is the reference's. -/
theorem same_result : Cert.algebraic_KernelIdeal_ReferenceIdeal_pre_finite_scores_KernelIdeal := by
  intro m g m' g' pre same
  have split : Split (arrays m) _ _ _ _ _ :=
    ⟨fun c => (same c).1, fun c => (same c).2.1, fun c => (same c).2.2.1, fun c => (same c).2.2.2.1, fun c => (same c).2.2.2.2⟩
  have real (c : Dev Cert.KernelIdeal.nD) := real_inputs _ _ _ _ _ (pre c)
  have hx := (real 0).1
  have hwq := (real 0).2.1
  rw [(same 0).1] at hx
  rw [(same 0).2.1] at hwq
  have hk := real_blocks _ fun c => by
    have h := (real c).2.2
    rw [(same c).2.2.1] at h
    exact h
  refine ⟨Cert.ReferenceIdeal.Value.res_main_v44 m' 0, ?_, ?_⟩
  · refine (θ_run Cert.KernelIdeal.defs _ _).mono (fun r h c => ⟨?_, args_kept m g r h.1 c⟩) (run_main m g)
    exact (result_kept m g r h.1 c).trans ((split.result hx hwq hk c).trans (Spec.result_eq m' 0).symm)
  · exact (θ_run Cert.ReferenceIdeal.defs _ _).mono (fun r h => h 0) (Cert.ReferenceIdeal.Value.run (F := Ideal) m' g')

theorem claim : Cert.Claim :=
  ⟨Cert.Kernel.Gen.facts, Cert.KernelIdeal.Gen.facts, Cert.ReferenceIdeal.Gen.facts,
    Cert.Pre_finite_scores_KernelIdeal.Gen.facts, Cert.Pre_finite_scores_ReferenceIdeal.Gen.facts,
    frame_kernel, frame_kernelIdeal, fun m ρ _ => frame_kernelIdeal m ρ trivial,
    frame_reference, fun m ρ _ => frame_reference m ρ trivial, trivial, same_result⟩

end Cert.Proof

end
